-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_1)) (v1 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_1) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S4096x128 : Shape := ⟨2, ![4096, 128]⟩
abbrev S262144x128 : Shape := ⟨2, ![262144, 128]⟩
abbrev S_ : Shape := ⟨0, ![]⟩

class Facts : Prop where

variable [Facts]

def fn {F : FTy → Type} [FloatOps F] (main_arg0 : FVec F S4096x128 .f32) (main_arg1 : FVec F S262144x128 .f32) (main_arg2 : IVec S_ 32) : IVec S_ 1 :=
  let main_c : IVec S_ 32 := constantI S_ 32 0#32
  let main_v0 : IVec S_ 1 := cmpi .sge main_arg2 main_c
  main_v0
-- ==== Kernel.lean ====
abbrev S4096x128 : Shape := ⟨2, ![4096, 128]⟩
abbrev S262144x128 : Shape := ⟨2, ![262144, 128]⟩
abbrev S_ : Shape := ⟨0, ![]⟩
abbrev S1024x128 : Shape := ⟨2, ![1024, 128]⟩
abbrev S6144x128 : Shape := ⟨2, ![6144, 128]⟩
abbrev S1 : Shape := ⟨1, ![1]⟩
abbrev S128x262144 : Shape := ⟨2, ![128, 262144]⟩
abbrev S256x128 : Shape := ⟨2, ![256, 128]⟩
abbrev S3x16384x128 : Shape := ⟨3, ![3, 16384, 128]⟩
abbrev S4x128x16384 : Shape := ⟨3, ![4, 128, 16384]⟩
abbrev S3 : Shape := ⟨1, ![3]⟩
abbrev S4 : Shape := ⟨1, ![4]⟩
abbrev S1x16384x128 : Shape := ⟨3, ![1, 16384, 128]⟩
abbrev S16384x128 : Shape := ⟨2, ![16384, 128]⟩
abbrev S128x16384 : Shape := ⟨2, ![128, 16384]⟩
abbrev S1x128x16384 : Shape := ⟨3, ![1, 128, 16384]⟩
abbrev S1024x1 : Shape := ⟨2, ![1024, 1]⟩
abbrev S1x1024x128 : Shape := ⟨3, ![1, 1024, 128]⟩
abbrev S128x1024 : Shape := ⟨2, ![128, 1024]⟩
abbrev S1x128x1024 : Shape := ⟨3, ![1, 128, 1024]⟩

abbrev nBuf : Space → Nat
  | .hbm => 10
  | .vmem => 5
  | .smem => 1
  | _ => 0

abbrev bufTy : (tb : Table) → Fin (tcTables nBuf tb) → BufTy
  | .hbm, ⟨0, _⟩ => ⟨S4096x128, .f32⟩
  | .hbm, ⟨1, _⟩ => ⟨S262144x128, .f32⟩
  | .hbm, ⟨2, _⟩ => ⟨S_, .i32⟩
  | .hbm, ⟨3, _⟩ => ⟨S_, .f32⟩
  | .hbm, ⟨4, _⟩ => ⟨S1024x128, .f32⟩
  | .hbm, ⟨5, _⟩ => ⟨S_, .f32⟩
  | .hbm, ⟨6, _⟩ => ⟨S1024x128, .f32⟩
  | .hbm, ⟨7, _⟩ => ⟨S6144x128, .f32⟩
  | .hbm, ⟨8, _⟩ => ⟨S128x262144, .f32⟩
  | .hbm, ⟨9, _⟩ => ⟨S4096x128, .f32⟩
  | .local _ .vmem, ⟨0, _⟩ => ⟨S6144x128, .f32⟩
  | .local _ .vmem, ⟨1, _⟩ => ⟨S256x128, .f32⟩
  | .local _ .vmem, ⟨2, _⟩ => ⟨S256x128, .f32⟩
  | .local _ .vmem, ⟨3, _⟩ => ⟨S3x16384x128, .f32⟩
  | .local _ .vmem, ⟨4, _⟩ => ⟨S4x128x16384, .f32⟩
  | .local _ .smem, ⟨0, _⟩ => ⟨S1, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v4_0 : Ref sig .tc := ⟨.hbm, 8, rfl⟩
abbrev main_v4_1 : Ref sig .tc := ⟨.hbm, 9, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c4_i32_2 : BitVec 32 := 4#32
  let v9 : BitVec 1 := Scalar.cmpi .sge arg0 c4_i32_2
  let v10 : BitVec 32 := Scalar.extui v9
  let c0_i32_3 : BitVec 32 := 0#32
  let v11 : BitVec 1 := Scalar.cmpi .ne v10 c0_i32_3
  v11

def k0_off1 (i : grid0.Coords) : Fin 1 → Nat :=
  let arg0 : BitVec 32 := BitVec.ofNat 32 (i 0).val
  let c4_i32 : BitVec 32 := 4#32
  let v1 : BitVec 32 := Scalar.remsi arg0 c4_i32
  ![v1.toNat]
def k0_off2 (i : grid0.Coords) : Fin 2 → Nat :=
  let c0_i32_23 : BitVec 32 := 0#32
  let arg0 : BitVec 32 := BitVec.ofNat 32 (i 0).val
  let c4_i32_21 : BitVec 32 := 4#32
  let v47 : BitVec 32 := Scalar.subi arg0 c4_i32_21
  let c16384_i32_22 : BitVec 32 := 16384#32
  let v48 : BitVec 32 := Scalar.muli v47 c16384_i32_22
  ![0, v48.toNat]
def k0_off3 (i : grid0.Coords) : Fin 3 → Nat :=
  let arg0 : BitVec 32 := BitVec.ofNat 32 (i 0).val
  let c4_i32 : BitVec 32 := 4#32
  let v1 : BitVec 32 := Scalar.remsi arg0 c4_i32
  let c0_i32_24 : BitVec 32 := 0#32
  let c0_i32_25 : BitVec 32 := 0#32
  ![v1.toNat, 0, 0]
def k0_off4 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off5 (i : grid0.Coords) : Fin 3 → Nat :=
  let arg0 : BitVec 32 := BitVec.ofNat 32 (i 0).val
  let c3_i32 : BitVec 32 := 3#32
  let v0 : BitVec 32 := Scalar.remsi arg0 c3_i32
  let c0_i32_5 : BitVec 32 := 0#32
  let c0_i32_6 : BitVec 32 := 0#32
  ![v0.toNat, 0, 0]
def k0_off6 (i : grid0.Coords) : Fin 2 → Nat :=
  let arg0 : BitVec 32 := BitVec.ofNat 32 (i 0).val
  let c16384_i32_4 : BitVec 32 := 16384#32
  let v12 : BitVec 32 := Scalar.muli arg0 c16384_i32_4
  let c0_i32_7 : BitVec 32 := 0#32
  ![v12.toNat, 0]
def k0_off7 (i : grid0.Coords) (v2 : BitVec 32) (c0_i32_21 : BitVec 32) : Fin 2 → Nat :=
  let c4096_i32_22 : BitVec 32 := 4096#32
  let c_m1024_i32 : BitVec 32 := 4294966272#32
  let arg0 : BitVec 32 := BitVec.ofNat 32 (i 0).val
  let c16384_i32 : BitVec 32 := 16384#32
  let v5 : BitVec 32 := Scalar.muli arg0 c16384_i32
  let v47 : BitVec 32 := Scalar.addi v5 c0_i32_21
  let c258048_i32 : BitVec 32 := 258048#32
  let c0_i32 : BitVec 32 := 0#32
  let v3 : BitVec 32 := Scalar.maxsi c0_i32 v2
  let v4 : BitVec 32 := Scalar.minsi c258048_i32 v3
  let v48 : BitVec 32 := Scalar.subi v47 v4
  let v49 : BitVec 32 := Scalar.maxsi c_m1024_i32 v48
  let v50 : BitVec 32 := Scalar.minsi c4096_i32_22 v49
  let c1024_i32_23 : BitVec 32 := 1024#32
  let v51 : BitVec 32 := Scalar.addi v50 c1024_i32_23
  let v52 : Index := Scalar.indexCast v51
  let c0_24 : Index := 0#32
  ![v52.toNat, 0]
def k0_cond3 (i : grid0.Coords) (v2 : BitVec 32) : BitVec 1 :=
  let arg0 : BitVec 32 := BitVec.ofNat 32 (i 0).val
  let c16384_i32 : BitVec 32 := 16384#32
  let v5 : BitVec 32 := Scalar.muli arg0 c16384_i32
  let c16384_i32_8 : BitVec 32 := 16384#32
  let v18 : BitVec 32 := Scalar.addi v5 c16384_i32_8
  let c258048_i32 : BitVec 32 := 258048#32
  let c0_i32 : BitVec 32 := 0#32
  let v3 : BitVec 32 := Scalar.maxsi c0_i32 v2
  let v4 : BitVec 32 := Scalar.minsi c258048_i32 v3
  let v19 : BitVec 1 := Scalar.cmpi .sgt v18 v4
  let c4096_i32 : BitVec 32 := 4096#32
  let v20 : BitVec 32 := Scalar.addi v4 c4096_i32
  let v21 : BitVec 1 := Scalar.cmpi .slt v5 v20
  let v22 : BitVec 1 := Scalar.andi v19 v21
  let v23 : BitVec 32 := Scalar.extui v22
  let c0_i32_9 : BitVec 32 := 0#32
  let v24 : BitVec 1 := Scalar.cmpi .ne v23 c0_i32_9
  v24

def k0_chk1 (i : grid0.Coords) (v2 : BitVec 32) : Prop :=
  (∀ (k0_h3 : k0_cond3 i v2 = 1#1), ∀ (r : Fin 16), ∀ a, (k0_off7 i v2 (BitVec.ofNat 32 (1024 * r.val))) a + S1024x128.size a ≤ S6144x128.size a)
theorem k0_off7_inb : ∀ (i : grid0.Coords) (v2 : BitVec 32) (k0_hw1 : k0_chk1 i v2), ∀ (k0_h3 : k0_cond3 i v2 = 1#1), ∀ (r : Fin 16), ∀ a, (k0_off7 i v2 (BitVec.ofNat 32 (1024 * r.val))) a + S1024x128.size a ≤ S6144x128.size a := fun i v2 k0_hw1 k0_h3 r => k0_hw1 k0_h3 r

def k0_off8 (i : grid0.Coords) : Fin 3 → Nat :=
  let arg0 : BitVec 32 := BitVec.ofNat 32 (i 0).val
  let c3_i32 : BitVec 32 := 3#32
  let v0 : BitVec 32 := Scalar.remsi arg0 c3_i32
  let v64 : Index := Scalar.indexCast v0
  let c0_26 : Index := 0#32
  let c0_27 : Index := 0#32
  ![v64.toNat, 0, 0]
def k0_off9 (i : grid0.Coords) : Fin 3 → Nat :=
  let arg0 : BitVec 32 := BitVec.ofNat 32 (i 0).val
  let c4_i32 : BitVec 32 := 4#32
  let v1 : BitVec 32 := Scalar.remsi arg0 c4_i32
  let v71 : Index := Scalar.indexCast v1
  let c0_28 : Index := 0#32
  let c0_29 : Index := 0#32
  ![v71.toNat, 0, 0]
def k0_off10 (i : grid0.Coords) : Fin 3 → Nat :=
  let arg0 : BitVec 32 := BitVec.ofNat 32 (i 0).val
  let c3_i32 : BitVec 32 := 3#32
  let v0 : BitVec 32 := Scalar.remsi arg0 c3_i32
  let v92 : Index := Scalar.indexCast v0
  let c1024 : Index := 1024#32
  let c0_36 : Index := 0#32
  ![v92.toNat, 1024, 0]
def k0_off11 (i : grid0.Coords) : Fin 3 → Nat :=
  let arg0 : BitVec 32 := BitVec.ofNat 32 (i 0).val
  let c4_i32 : BitVec 32 := 4#32
  let v1 : BitVec 32 := Scalar.remsi arg0 c4_i32
  let v99 : Index := Scalar.indexCast v1
  let c0_37 : Index := 0#32
  let c1024_38 : Index := 1024#32
  ![v99.toNat, 0, 1024]
def k0_off12 (i : grid0.Coords) : Fin 3 → Nat :=
  let arg0 : BitVec 32 := BitVec.ofNat 32 (i 0).val
  let c3_i32 : BitVec 32 := 3#32
  let v0 : BitVec 32 := Scalar.remsi arg0 c3_i32
  let v120 : Index := Scalar.indexCast v0
  let c2048 : Index := 2048#32
  let c0_44 : Index := 0#32
  ![v120.toNat, 2048, 0]
def k0_off13 (i : grid0.Coords) : Fin 3 → Nat :=
  let arg0 : BitVec 32 := BitVec.ofNat 32 (i 0).val
  let c4_i32 : BitVec 32 := 4#32
  let v1 : BitVec 32 := Scalar.remsi arg0 c4_i32
  let v127 : Index := Scalar.indexCast v1
  let c0_45 : Index := 0#32
  let c2048_46 : Index := 2048#32
  ![v127.toNat, 0, 2048]
def k0_off14 (i : grid0.Coords) : Fin 3 → Nat :=
  let arg0 : BitVec 32 := BitVec.ofNat 32 (i 0).val
  let c3_i32 : BitVec 32 := 3#32
  let v0 : BitVec 32 := Scalar.remsi arg0 c3_i32
  let v148 : Index := Scalar.indexCast v0
  let c3072 : Index := 3072#32
  let c0_52 : Index := 0#32
  ![v148.toNat, 3072, 0]
def k0_off15 (i : grid0.Coords) : Fin 3 → Nat :=
  let arg0 : BitVec 32 := BitVec.ofNat 32 (i 0).val
  let c4_i32 : BitVec 32 := 4#32
  let v1 : BitVec 32 := Scalar.remsi arg0 c4_i32
  let v155 : Index := Scalar.indexCast v1
  let c0_53 : Index := 0#32
  let c3072_54 : Index := 3072#32
  ![v155.toNat, 0, 3072]
def k0_off16 (i : grid0.Coords) : Fin 3 → Nat :=
  let arg0 : BitVec 32 := BitVec.ofNat 32 (i 0).val
  let c3_i32 : BitVec 32 := 3#32
  let v0 : BitVec 32 := Scalar.remsi arg0 c3_i32
  let v176 : Index := Scalar.indexCast v0
  let c4096 : Index := 4096#32
  let c0_61 : Index := 0#32
  ![v176.toNat, 4096, 0]
def k0_off17 (i : grid0.Coords) : Fin 3 → Nat :=
  let arg0 : BitVec 32 := BitVec.ofNat 32 (i 0).val
  let c4_i32 : BitVec 32 := 4#32
  let v1 : BitVec 32 := Scalar.remsi arg0 c4_i32
  let v183 : Index := Scalar.indexCast v1
  let c0_62 : Index := 0#32
  let c4096_63 : Index := 4096#32
  ![v183.toNat, 0, 4096]
def k0_off18 (i : grid0.Coords) : Fin 3 → Nat :=
  let arg0 : BitVec 32 := BitVec.ofNat 32 (i 0).val
  let c3_i32 : BitVec 32 := 3#32
  let v0 : BitVec 32 := Scalar.remsi arg0 c3_i32
  let v204 : Index := Scalar.indexCast v0
  let c5120 : Index := 5120#32
  let c0_69 : Index := 0#32
  ![v204.toNat, 5120, 0]
def k0_off19 (i : grid0.Coords) : Fin 3 → Nat :=
  let arg0 : BitVec 32 := BitVec.ofNat 32 (i 0).val
  let c4_i32 : BitVec 32 := 4#32
  let v1 : BitVec 32 := Scalar.remsi arg0 c4_i32
  let v211 : Index := Scalar.indexCast v1
  let c0_70 : Index := 0#32
  let c5120_71 : Index := 5120#32
  ![v211.toNat, 0, 5120]
def k0_off20 (i : grid0.Coords) : Fin 3 → Nat :=
  let arg0 : BitVec 32 := BitVec.ofNat 32 (i 0).val
  let c3_i32 : BitVec 32 := 3#32
  let v0 : BitVec 32 := Scalar.remsi arg0 c3_i32
  let v232 : Index := Scalar.indexCast v0
  let c6144 : Index := 6144#32
  let c0_77 : Index := 0#32
  ![v232.toNat, 6144, 0]
def k0_off21 (i : grid0.Coords) : Fin 3 → Nat :=
  let arg0 : BitVec 32 := BitVec.ofNat 32 (i 0).val
  let c4_i32 : BitVec 32 := 4#32
  let v1 : BitVec 32 := Scalar.remsi arg0 c4_i32
  let v239 : Index := Scalar.indexCast v1
  let c0_78 : Index := 0#32
  let c6144_79 : Index := 6144#32
  ![v239.toNat, 0, 6144]
def k0_off22 (i : grid0.Coords) : Fin 3 → Nat :=
  let arg0 : BitVec 32 := BitVec.ofNat 32 (i 0).val
  let c3_i32 : BitVec 32 := 3#32
  let v0 : BitVec 32 := Scalar.remsi arg0 c3_i32
  let v260 : Index := Scalar.indexCast v0
  let c7168 : Index := 7168#32
  let c0_85 : Index := 0#32
  ![v260.toNat, 7168, 0]
def k0_off23 (i : grid0.Coords) : Fin 3 → Nat :=
  let arg0 : BitVec 32 := BitVec.ofNat 32 (i 0).val
  let c4_i32 : BitVec 32 := 4#32
  let v1 : BitVec 32 := Scalar.remsi arg0 c4_i32
  let v267 : Index := Scalar.indexCast v1
  let c0_86 : Index := 0#32
  let c7168_87 : Index := 7168#32
  ![v267.toNat, 0, 7168]
def k0_off24 (i : grid0.Coords) : Fin 3 → Nat :=
  let arg0 : BitVec 32 := BitVec.ofNat 32 (i 0).val
  let c3_i32 : BitVec 32 := 3#32
  let v0 : BitVec 32 := Scalar.remsi arg0 c3_i32
  let v288 : Index := Scalar.indexCast v0
  let c8192 : Index := 8192#32
  let c0_93 : Index := 0#32
  ![v288.toNat, 8192, 0]
def k0_off25 (i : grid0.Coords) : Fin 3 → Nat :=
  let arg0 : BitVec 32 := BitVec.ofNat 32 (i 0).val
  let c4_i32 : BitVec 32 := 4#32
  let v1 : BitVec 32 := Scalar.remsi arg0 c4_i32
  let v295 : Index := Scalar.indexCast v1
  let c0_94 : Index := 0#32
  let c8192_95 : Index := 8192#32
  ![v295.toNat, 0, 8192]
def k0_off26 (i : grid0.Coords) : Fin 3 → Nat :=
  let arg0 : BitVec 32 := BitVec.ofNat 32 (i 0).val
  let c3_i32 : BitVec 32 := 3#32
  let v0 : BitVec 32 := Scalar.remsi arg0 c3_i32
  let v316 : Index := Scalar.indexCast v0
  let c9216 : Index := 9216#32
  let c0_101 : Index := 0#32
  ![v316.toNat, 9216, 0]
def k0_off27 (i : grid0.Coords) : Fin 3 → Nat :=
  let arg0 : BitVec 32 := BitVec.ofNat 32 (i 0).val
  let c4_i32 : BitVec 32 := 4#32
  let v1 : BitVec 32 := Scalar.remsi arg0 c4_i32
  let v323 : Index := Scalar.indexCast v1
  let c0_102 : Index := 0#32
  let c9216_103 : Index := 9216#32
  ![v323.toNat, 0, 9216]
def k0_off28 (i : grid0.Coords) : Fin 3 → Nat :=
  let arg0 : BitVec 32 := BitVec.ofNat 32 (i 0).val
  let c3_i32 : BitVec 32 := 3#32
  let v0 : BitVec 32 := Scalar.remsi arg0 c3_i32
  let v344 : Index := Scalar.indexCast v0
  let c10240 : Index := 10240#32
  let c0_109 : Index := 0#32
  ![v344.toNat, 10240, 0]
def k0_off29 (i : grid0.Coords) : Fin 3 → Nat :=
  let arg0 : BitVec 32 := BitVec.ofNat 32 (i 0).val
  let c4_i32 : BitVec 32 := 4#32
  let v1 : BitVec 32 := Scalar.remsi arg0 c4_i32
  let v351 : Index := Scalar.indexCast v1
  let c0_110 : Index := 0#32
  let c10240_111 : Index := 10240#32
  ![v351.toNat, 0, 10240]
def k0_off30 (i : grid0.Coords) : Fin 3 → Nat :=
  let arg0 : BitVec 32 := BitVec.ofNat 32 (i 0).val
  let c3_i32 : BitVec 32 := 3#32
  let v0 : BitVec 32 := Scalar.remsi arg0 c3_i32
  let v372 : Index := Scalar.indexCast v0
  let c11264 : Index := 11264#32
  let c0_117 : Index := 0#32
  ![v372.toNat, 11264, 0]
def k0_off31 (i : grid0.Coords) : Fin 3 → Nat :=
  let arg0 : BitVec 32 := BitVec.ofNat 32 (i 0).val
  let c4_i32 : BitVec 32 := 4#32
  let v1 : BitVec 32 := Scalar.remsi arg0 c4_i32
  let v379 : Index := Scalar.indexCast v1
  let c0_118 : Index := 0#32
  let c11264_119 : Index := 11264#32
  ![v379.toNat, 0, 11264]
def k0_off32 (i : grid0.Coords) : Fin 3 → Nat :=
  let arg0 : BitVec 32 := BitVec.ofNat 32 (i 0).val
  let c3_i32 : BitVec 32 := 3#32
  let v0 : BitVec 32 := Scalar.remsi arg0 c3_i32
  let v400 : Index := Scalar.indexCast v0
  let c12288 : Index := 12288#32
  let c0_125 : Index := 0#32
  ![v400.toNat, 12288, 0]
def k0_off33 (i : grid0.Coords) : Fin 3 → Nat :=
  let arg0 : BitVec 32 := BitVec.ofNat 32 (i 0).val
  let c4_i32 : BitVec 32 := 4#32
  let v1 : BitVec 32 := Scalar.remsi arg0 c4_i32
  let v407 : Index := Scalar.indexCast v1
  let c0_126 : Index := 0#32
  let c12288_127 : Index := 12288#32
  ![v407.toNat, 0, 12288]
def k0_off34 (i : grid0.Coords) : Fin 3 → Nat :=
  let arg0 : BitVec 32 := BitVec.ofNat 32 (i 0).val
  let c3_i32 : BitVec 32 := 3#32
  let v0 : BitVec 32 := Scalar.remsi arg0 c3_i32
  let v428 : Index := Scalar.indexCast v0
  let c13312 : Index := 13312#32
  let c0_133 : Index := 0#32
  ![v428.toNat, 13312, 0]
def k0_off35 (i : grid0.Coords) : Fin 3 → Nat :=
  let arg0 : BitVec 32 := BitVec.ofNat 32 (i 0).val
  let c4_i32 : BitVec 32 := 4#32
  let v1 : BitVec 32 := Scalar.remsi arg0 c4_i32
  let v435 : Index := Scalar.indexCast v1
  let c0_134 : Index := 0#32
  let c13312_135 : Index := 13312#32
  ![v435.toNat, 0, 13312]
def k0_off36 (i : grid0.Coords) : Fin 3 → Nat :=
  let arg0 : BitVec 32 := BitVec.ofNat 32 (i 0).val
  let c3_i32 : BitVec 32 := 3#32
  let v0 : BitVec 32 := Scalar.remsi arg0 c3_i32
  let v456 : Index := Scalar.indexCast v0
  let c14336 : Index := 14336#32
  let c0_141 : Index := 0#32
  ![v456.toNat, 14336, 0]
def k0_off37 (i : grid0.Coords) : Fin 3 → Nat :=
  let arg0 : BitVec 32 := BitVec.ofNat 32 (i 0).val
  let c4_i32 : BitVec 32 := 4#32
  let v1 : BitVec 32 := Scalar.remsi arg0 c4_i32
  let v463 : Index := Scalar.indexCast v1
  let c0_142 : Index := 0#32
  let c14336_143 : Index := 14336#32
  ![v463.toNat, 0, 14336]
def k0_off38 (i : grid0.Coords) : Fin 3 → Nat :=
  let arg0 : BitVec 32 := BitVec.ofNat 32 (i 0).val
  let c3_i32 : BitVec 32 := 3#32
  let v0 : BitVec 32 := Scalar.remsi arg0 c3_i32
  let v484 : Index := Scalar.indexCast v0
  let c15360 : Index := 15360#32
  let c0_149 : Index := 0#32
  ![v484.toNat, 15360, 0]
def k0_off39 (i : grid0.Coords) : Fin 3 → Nat :=
  let arg0 : BitVec 32 := BitVec.ofNat 32 (i 0).val
  let c4_i32 : BitVec 32 := 4#32
  let v1 : BitVec 32 := Scalar.remsi arg0 c4_i32
  let v491 : Index := Scalar.indexCast v1
  let c0_150 : Index := 0#32
  let c15360_151 : Index := 15360#32
  ![v491.toNat, 0, 15360]
def k0_off40 (i : grid0.Coords) : Fin 3 → Nat :=
  let arg0 : BitVec 32 := BitVec.ofNat 32 (i 0).val
  let c3_i32 : BitVec 32 := 3#32
  let v0 : BitVec 32 := Scalar.remsi arg0 c3_i32
  let v47 : Index := Scalar.indexCast v0
  let c0_21 : Index := 0#32
  let c0_22 : Index := 0#32
  ![v47.toNat, 0, 0]
def k0_off41 (i : grid0.Coords) : Fin 3 → Nat :=
  let arg0 : BitVec 32 := BitVec.ofNat 32 (i 0).val
  let c4_i32 : BitVec 32 := 4#32
  let v1 : BitVec 32 := Scalar.remsi arg0 c4_i32
  let v51 : Index := Scalar.indexCast v1
  let c0_23 : Index := 0#32
  let c0_24 : Index := 0#32
  ![v51.toNat, 0, 0]
def k0_off42 (i : grid0.Coords) : Fin 1 → Nat :=
  let arg0 : BitVec 32 := BitVec.ofNat 32 (i 0).val
  let c4_i32 : BitVec 32 := 4#32
  let v1 : BitVec 32 := Scalar.remsi arg0 c4_i32
  ![v1.toNat]
def k0_off43 (i : grid0.Coords) : Fin 2 → Nat :=
  let c0_i32_12 : BitVec 32 := 0#32
  let arg0 : BitVec 32 := BitVec.ofNat 32 (i 0).val
  let c16384_i32_11 : BitVec 32 := 16384#32
  let v28 : BitVec 32 := Scalar.muli arg0 c16384_i32_11
  ![0, v28.toNat]
def k0_off44 (i : grid0.Coords) : Fin 3 → Nat :=
  let arg0 : BitVec 32 := BitVec.ofNat 32 (i 0).val
  let c4_i32 : BitVec 32 := 4#32
  let v1 : BitVec 32 := Scalar.remsi arg0 c4_i32
  let c0_i32_13 : BitVec 32 := 0#32
  let c0_i32_14 : BitVec 32 := 0#32
  ![v1.toNat, 0, 0]
def k0_cond5 (i : grid0.Coords) : BitVec 1 :=
  let arg0 : BitVec 32 := BitVec.ofNat 32 (i 0).val
  let c3_i32_15 : BitVec 32 := 3#32
  let v34 : BitVec 32 := Scalar.addi arg0 c3_i32_15
  let c16_i32 : BitVec 32 := 16#32
  let v35 : BitVec 1 := Scalar.cmpi .slt v34 c16_i32
  let v36 : BitVec 32 := Scalar.extui v35
  let c0_i32_16 : BitVec 32 := 0#32
  let v37 : BitVec 1 := Scalar.cmpi .ne v36 c0_i32_16
  v37

def k0_off45 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off46 (i : grid0.Coords) : Fin 3 → Nat :=
  let arg0 : BitVec 32 := BitVec.ofNat 32 (i 0).val
  let c3_i32 : BitVec 32 := 3#32
  let v0 : BitVec 32 := Scalar.remsi arg0 c3_i32
  let c0_i32_23 : BitVec 32 := 0#32
  let c0_i32_24 : BitVec 32 := 0#32
  ![v0.toNat, 0, 0]
def k0_off47 (i : grid0.Coords) : Fin 2 → Nat :=
  let arg0 : BitVec 32 := BitVec.ofNat 32 (i 0).val
  let c3_i32_21 : BitVec 32 := 3#32
  let v47 : BitVec 32 := Scalar.addi arg0 c3_i32_21
  let c16384_i32_22 : BitVec 32 := 16384#32
  let v48 : BitVec 32 := Scalar.muli v47 c16384_i32_22
  let c0_i32_25 : BitVec 32 := 0#32
  ![v48.toNat, 0]
def k0_off48 (i : grid0.Coords) : Fin 2 → Nat :=
  let c1024_i32 : BitVec 32 := 1024#32
  let arg0 : BitVec 32 := BitVec.ofNat 32 (i 0).val
  let c256_i32 : BitVec 32 := 256#32
  let v38 : BitVec 32 := Scalar.muli arg0 c256_i32
  let v39 : BitVec 32 := Scalar.addi c1024_i32 v38
  let v40 : Index := Scalar.indexCast v39
  let c0_17 : Index := 0#32
  ![v40.toNat, 0]
def k0_cond6 (i : grid0.Coords) : BitVec 1 :=
  let arg0 : BitVec 32 := BitVec.ofNat 32 (i 0).val
  let c15_i32 : BitVec 32 := 15#32
  let v44 : BitVec 1 := Scalar.cmpi .eq arg0 c15_i32
  let v45 : BitVec 32 := Scalar.extui v44
  let c0_i32_20 : BitVec 32 := 0#32
  let v46 : BitVec 1 := Scalar.cmpi .ne v45 c0_i32_20
  v46

def k0_off49 (c12_i32 : BitVec 32) : Fin 1 → Nat :=
  let c4_i32_21 : BitVec 32 := 4#32
  let v47 : BitVec 32 := Scalar.remsi c12_i32 c4_i32_21
  ![v47.toNat]
def k0_off50 (c12_i32 : BitVec 32) : Fin 3 → Nat :=
  let c4_i32_21 : BitVec 32 := 4#32
  let v47 : BitVec 32 := Scalar.remsi c12_i32 c4_i32_21
  let c0_i32_23 : BitVec 32 := 0#32
  let c0_i32_24 : BitVec 32 := 0#32
  ![v47.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x128 : Shape := ⟨2, ![4096, 128]⟩
abbrev S262144x128 : Shape := ⟨2, ![262144, 128]⟩
abbrev S_ : Shape := ⟨0, ![]⟩
abbrev S128x262144 : Shape := ⟨2, ![128, 262144]⟩

abbrev nBuf : Space → Nat
  | .hbm => 11
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S262144x128, .f32⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S262144x128, .f32⟩
  | .hbm, ⟨10, _⟩ => ⟨S128x262144, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Proof.Kernel.Names.lean ====
/-
  The names the rest of the proof speaks in. The kernel streams the 16 row blocks of the queue through a ring of three
  scratch slots and sends the 16 column blocks of the result from a ring of four scratch slots. Here are the slots, the
  blocks and the semaphore cells as functions of their number, and, for every place where the kernel names one of
  them by an offset that it computes from its grid coordinate, the equation that says which one it is.
-/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Ring.WriteBehind
public import Idealize.ShloMosaic.Lib.Ring.AtN
public import Idealize.ShloMosaic.Lib.Tactic
public import Idealize.ShloMosaic.Lib.WordCmp
public import Idealize.ShloMosaic.Lib.ViewIndex

@[expose] public section

set_option maxRecDepth 16384

noncomputable section

namespace Cert.Kernel.Queue

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Whole buffers -/

/-- The queue, in the far memory. -/
abbrev qM : Memref sig .tc .hbm S262144x128 .f32 := Memref.whole main_arg1
/-- The transposed result, in the far memory. -/
abbrev oM : Memref sig .tc .hbm S128x262144 .f32 := Memref.whole main_v4_0
/-- The three input slots. -/
abbrev inM : Memref sig .tc .vmem S3x16384x128 .f32 := Memref.whole cc0_scratch0
/-- The four output slots. -/
abbrev outM : Memref sig .tc .vmem S4x128x16384 .f32 := Memref.whole cc0_scratch1
/-- The scalar table that holds the write position. -/
abbrev ptM : Memref sig .tc .smem S1 .i32 := Memref.whole main_v3

/-! ## Slots, blocks and cells by number -/

theorem inSlot_inb (s : Fin 3) : ∀ a, (![s.val, 0, 0] : Fin 3 → Nat) a + S1x16384x128.size a ≤ S3x16384x128.size a := by
  have := s.isLt; intro a; fin_cases a <;> simp <;> omega
theorem outSlot_inb (s : Fin 4) : ∀ a, (![s.val, 0, 0] : Fin 3 → Nat) a + S1x128x16384.size a ≤ S4x128x16384.size a := by
  have := s.isLt; intro a; fin_cases a <;> simp <;> omega
theorem qBlk_inb (b : Fin 16) : ∀ a, (![16384 * b.val, 0] : Fin 2 → Nat) a + S16384x128.size a ≤ S262144x128.size a := by
  have := b.isLt; intro a; fin_cases a <;> simp <;> omega
theorem oBlk_inb (b : Fin 16) : ∀ a, (![0, 16384 * b.val] : Fin 2 → Nat) a + S128x16384.size a ≤ S128x262144.size a := by
  have := b.isLt; intro a; fin_cases a <;> simp <;> omega
theorem inCell_inb (s : Fin 3) : ∀ a, (![s.val] : Fin 1 → Nat) a + S1.size a ≤ S3.size a := by
  have := s.isLt; intro a; fin_cases a; simp; omega
theorem outCell_inb (s : Fin 4) : ∀ a, (![s.val] : Fin 1 → Nat) a + S1.size a ≤ S4.size a := by
  have := s.isLt; intro a; fin_cases a; simp; omega

/-- Input slot `s`, as a matrix of 16384 rows. -/
def inSlot (s : Fin 3) : Memref sig .tc .vmem S16384x128 .f32 :=
  (inM.slice (Rect.unit (s := S3x16384x128) ![s.val, 0, 0] S1x16384x128.size (inSlot_inb s)) (fun _ => rfl)).squeeze S16384x128 squeezes_S1x16384x128_S16384x128
/-- Output slot `s`, as a matrix of 16384 columns. -/
def outSlot (s : Fin 4) : Memref sig .tc .vmem S128x16384 .f32 :=
  (outM.slice (Rect.unit (s := S4x128x16384) ![s.val, 0, 0] S1x128x16384.size (outSlot_inb s)) (fun _ => rfl)).squeeze S128x16384 squeezes_S1x128x16384_S128x16384
/-- Rows `16384 b` to `16384 b + 16383` of the queue. -/
def qBlk (b : Fin 16) : Memref sig .tc .hbm S16384x128 .f32 :=
  qM.slice (Rect.unit (s := S262144x128) ![16384 * b.val, 0] S16384x128.size (qBlk_inb b)) (fun _ => rfl)
/-- Columns `16384 b` to `16384 b + 16383` of the result. -/
def oBlk (b : Fin 16) : Memref sig .tc .hbm S128x16384 .f32 :=
  oM.slice (Rect.unit (s := S128x262144) ![0, 16384 * b.val] S128x16384.size (oBlk_inb b)) (fun _ => rfl)
/-- The cell that copies into input slot `s` signal. -/
def inCell (s : Fin 3) : DmaSems sig S_ := (cc0_scratch2.slice (Rect.unit (s := S3) ![s.val] S1.size (inCell_inb s))).squeeze S_ squeezes_S1_S_
/-- The cell that copies out of output slot `s` signal. -/
def outCell (s : Fin 4) : DmaSems sig S_ := (cc0_scratch3.slice (Rect.unit (s := S4) ![s.val] S1.size (outCell_inb s))).squeeze S_ squeezes_S1_S_

abbrev inLoc (s : Fin 3) : SemLoc sig := SemLoc.dma (inCell s).sem
abbrev outLoc (s : Fin 4) : SemLoc sig := SemLoc.dma (outCell s).sem

theorem inLoc_val : ∀ s : Fin 3, inLoc s = SemLoc.dma (⟨3 + s.val, by have := s.isLt; omega⟩ : Fin 10) := by decide
theorem outLoc_val : ∀ s : Fin 4, outLoc s = SemLoc.dma (⟨6 + s.val, by have := s.isLt; omega⟩ : Fin 10) := by decide

/-! ## The grid coordinate and the conditions on it -/

/-- The step number of a grid point. -/
abbrev stp (i : grid0.Coords) : ℕ := (i 0).val
theorem stp_lt (i : grid0.Coords) : stp i < 16 := (i 0).isLt

/-- The condition of the first conditional, from the coordinate. -/
abbrev atStart (i : grid0.Coords) : Prop :=
  Scalar.cmpi .ne (Scalar.extui (Scalar.cmpi .eq (BitVec.ofNat 32 (i 0).val) 0#32) : BitVec 32) 0#32 = 1#1

theorem atStart_iff : ∀ i : grid0.Coords, atStart i ↔ stp i = 0 := by decide +kernel
theorem cond2_iff : ∀ i : grid0.Coords, k0_cond2 i = 1#1 ↔ 4 ≤ stp i := by decide +kernel
theorem cond5_iff : ∀ i : grid0.Coords, k0_cond5 i = 1#1 ↔ stp i + 3 < 16 := by decide +kernel
theorem cond6_iff : ∀ i : grid0.Coords, k0_cond6 i = 1#1 ↔ stp i = 15 := by decide +kernel

/-! ## Which slot, block or cell each computed offset names -/

section Which

private theorem inSlot_of {o : Fin 3 → Nat} (s : Fin 3) (h : o = ![s.val, 0, 0]) (p : ∀ a, o a + S1x16384x128.size a ≤ S3x16384x128.size a) :
    (inM.slice (Rect.unit (s := S3x16384x128) o S1x16384x128.size p) (fun _ => rfl)).squeeze S16384x128 squeezes_S1x16384x128_S16384x128 = inSlot s :=
  congrArg (fun M : Memref sig .tc .vmem S1x16384x128 .f32 => M.squeeze S16384x128 squeezes_S1x16384x128_S16384x128)
    (Memref.slice_unit_congr _ h _ _ (fun _ => rfl) (fun _ => rfl))
private theorem outSlot_of {o : Fin 3 → Nat} (s : Fin 4) (h : o = ![s.val, 0, 0]) (p : ∀ a, o a + S1x128x16384.size a ≤ S4x128x16384.size a) :
    (outM.slice (Rect.unit (s := S4x128x16384) o S1x128x16384.size p) (fun _ => rfl)).squeeze S128x16384 squeezes_S1x128x16384_S128x16384 = outSlot s :=
  congrArg (fun M : Memref sig .tc .vmem S1x128x16384 .f32 => M.squeeze S128x16384 squeezes_S1x128x16384_S128x16384)
    (Memref.slice_unit_congr _ h _ _ (fun _ => rfl) (fun _ => rfl))
private theorem qBlk_of {o : Fin 2 → Nat} (b : Fin 16) (h : o = ![16384 * b.val, 0]) (p : ∀ a, o a + S16384x128.size a ≤ S262144x128.size a) :
    qM.slice (Rect.unit (s := S262144x128) o S16384x128.size p) (fun _ => rfl) = qBlk b :=
  Memref.slice_unit_congr _ h _ _ (fun _ => rfl) (fun _ => rfl)
private theorem oBlk_of {o : Fin 2 → Nat} (b : Fin 16) (h : o = ![0, 16384 * b.val]) (p : ∀ a, o a + S128x16384.size a ≤ S128x262144.size a) :
    oM.slice (Rect.unit (s := S128x262144) o S128x16384.size p) (fun _ => rfl) = oBlk b :=
  Memref.slice_unit_congr _ h _ _ (fun _ => rfl) (fun _ => rfl)
private theorem inCell_of {o : Fin 1 → Nat} (s : Fin 3) (h : o = ![s.val]) (p : ∀ a, o a + S1.size a ≤ S3.size a) :
    (cc0_scratch2.slice (Rect.unit (s := S3) o S1.size p)).squeeze S_ squeezes_S1_S_ = inCell s :=
  congrArg (fun A : DmaSems sig S1 => A.squeeze S_ squeezes_S1_S_) (SemArray.slice_unit_congr _ h _ _)
private theorem outCell_of {o : Fin 1 → Nat} (s : Fin 4) (h : o = ![s.val]) (p : ∀ a, o a + S1.size a ≤ S4.size a) :
    (cc0_scratch3.slice (Rect.unit (s := S4) o S1.size p)).squeeze S_ squeezes_S1_S_ = outCell s :=
  congrArg (fun A : DmaSems sig S1 => A.squeeze S_ squeezes_S1_S_) (SemArray.slice_unit_congr _ h _ _)

/-- The slot, the cell and the block of an offset written out as a numeral. -/
@[sl_canon] theorem inSlot_0 : (inM.slice (Rect.unit (s := S3x16384x128) ![0, 0, 0] S1x16384x128.size inb_S3x16384x128_S1x16384x128_0_0_0) (fun _ => rfl)).squeeze S16384x128 squeezes_S1x16384x128_S16384x128 = inSlot 0 := inSlot_of 0 rfl _
@[sl_canon] theorem inSlot_1 : (inM.slice (Rect.unit (s := S3x16384x128) ![1, 0, 0] S1x16384x128.size inb_S3x16384x128_S1x16384x128_1_0_0) (fun _ => rfl)).squeeze S16384x128 squeezes_S1x16384x128_S16384x128 = inSlot 1 := inSlot_of 1 rfl _
@[sl_canon] theorem inSlot_2 : (inM.slice (Rect.unit (s := S3x16384x128) ![2, 0, 0] S1x16384x128.size inb_S3x16384x128_S1x16384x128_2_0_0) (fun _ => rfl)).squeeze S16384x128 squeezes_S1x16384x128_S16384x128 = inSlot 2 := inSlot_of 2 rfl _
@[sl_canon] theorem qBlk_0 : qM.slice (Rect.unit (s := S262144x128) ![0, 0] S16384x128.size inb_S262144x128_S16384x128_0_0) (fun _ => rfl) = qBlk 0 := qBlk_of 0 rfl _
@[sl_canon] theorem qBlk_1 : qM.slice (Rect.unit (s := S262144x128) ![16384, 0] S16384x128.size inb_S262144x128_S16384x128_16384_0) (fun _ => rfl) = qBlk 1 := qBlk_of 1 rfl _
@[sl_canon] theorem qBlk_2 : qM.slice (Rect.unit (s := S262144x128) ![32768, 0] S16384x128.size inb_S262144x128_S16384x128_32768_0) (fun _ => rfl) = qBlk 2 := qBlk_of 2 rfl _
@[sl_canon] theorem inCell_0 : (cc0_scratch2.slice (Rect.unit (s := S3) ![0] S1.size inb_S3_S1_0)).squeeze S_ squeezes_S1_S_ = inCell 0 := inCell_of 0 rfl _
@[sl_canon] theorem inCell_1 : (cc0_scratch2.slice (Rect.unit (s := S3) ![1] S1.size inb_S3_S1_1)).squeeze S_ squeezes_S1_S_ = inCell 1 := inCell_of 1 rfl _
@[sl_canon] theorem inCell_2 : (cc0_scratch2.slice (Rect.unit (s := S3) ![2] S1.size inb_S3_S1_2)).squeeze S_ squeezes_S1_S_ = inCell 2 := inCell_of 2 rfl _
@[sl_canon] theorem oBlk_12 : oM.slice (Rect.unit (s := S128x262144) ![0, 196608] S128x16384.size inb_S128x262144_S128x16384_0_196608) (fun _ => rfl) = oBlk 12 := oBlk_of 12 rfl _
@[sl_canon] theorem oBlk_13 : oM.slice (Rect.unit (s := S128x262144) ![0, 212992] S128x16384.size inb_S128x262144_S128x16384_0_212992) (fun _ => rfl) = oBlk 13 := oBlk_of 13 rfl _
@[sl_canon] theorem oBlk_14 : oM.slice (Rect.unit (s := S128x262144) ![0, 229376] S128x16384.size inb_S128x262144_S128x16384_0_229376) (fun _ => rfl) = oBlk 14 := oBlk_of 14 rfl _
@[sl_canon] theorem oBlk_15 : oM.slice (Rect.unit (s := S128x262144) ![0, 245760] S128x16384.size inb_S128x262144_S128x16384_0_245760) (fun _ => rfl) = oBlk 15 := oBlk_of 15 rfl _

/-- What the kernel names at step `stp i`. -/
@[sl_canon] theorem inSlot_now (i : grid0.Coords) : (inM.slice (Rect.unit (s := S3x16384x128) (k0_off5 i) S1x16384x128.size (k0_off5_inb i)) (fun _ => rfl)).squeeze S16384x128 squeezes_S1x16384x128_S16384x128 = inSlot (Ring.sl 3 (stp i)) := inSlot_of _ (k0_off5_eq i) _
@[sl_canon] theorem inSlot_next (i : grid0.Coords) (h : k0_cond5 i = 1#1) : (inM.slice (Rect.unit (s := S3x16384x128) (k0_off46 i) S1x16384x128.size (k0_off46_inb i h)) (fun _ => rfl)).squeeze S16384x128 squeezes_S1x16384x128_S16384x128 = inSlot (Ring.sl 3 (stp i)) := inSlot_of _ (k0_off46_eq i) _
@[sl_canon] theorem inCell_now (i : grid0.Coords) : (cc0_scratch2.slice (Rect.unit (s := S3) (k0_off4 i) S1.size (k0_off4_inb i))).squeeze S_ squeezes_S1_S_ = inCell (Ring.sl 3 (stp i)) := inCell_of _ (k0_off4_eq i) _
@[sl_canon] theorem inCell_next (i : grid0.Coords) (h : k0_cond5 i = 1#1) : (cc0_scratch2.slice (Rect.unit (s := S3) (k0_off45 i) S1.size (k0_off45_inb i h))).squeeze S_ squeezes_S1_S_ = inCell (Ring.sl 3 (stp i)) := inCell_of _ (k0_off45_eq i) _
@[sl_canon] theorem qBlk_now (i : grid0.Coords) : qM.slice (Rect.unit (s := S262144x128) (k0_off6 i) S16384x128.size (k0_off6_inb i)) (fun _ => rfl) = qBlk (Ring.bk 16 (stp i)) :=
  qBlk_of _ ((k0_off6_eq i).trans (by rw [Ring.bk_val (stp_lt i)])) _
@[sl_canon] theorem qBlk_next (i : grid0.Coords) (h : k0_cond5 i = 1#1) : qM.slice (Rect.unit (s := S262144x128) (k0_off47 i) S16384x128.size (k0_off47_inb i h)) (fun _ => rfl) = qBlk (Ring.bk 16 (stp i + 3)) :=
  qBlk_of _ ((k0_off47_eq i).trans (by rw [Ring.bk_val ((cond5_iff i).mp h), Nat.mul_add])) _
@[sl_canon] theorem outSlot_past (i : grid0.Coords) (h : k0_cond2 i = 1#1) : (outM.slice (Rect.unit (s := S4x128x16384) (k0_off3 i) S1x128x16384.size (k0_off3_inb i h)) (fun _ => rfl)).squeeze S128x16384 squeezes_S1x128x16384_S128x16384 = outSlot (Ring.sl 4 (stp i)) := outSlot_of _ (k0_off3_eq i) _
@[sl_canon] theorem outSlot_now (i : grid0.Coords) : (outM.slice (Rect.unit (s := S4x128x16384) (k0_off44 i) S1x128x16384.size (k0_off44_inb i)) (fun _ => rfl)).squeeze S128x16384 squeezes_S1x128x16384_S128x16384 = outSlot (Ring.sl 4 (stp i)) := outSlot_of _ (k0_off44_eq i) _
@[sl_canon] theorem outCell_past (i : grid0.Coords) (h : k0_cond2 i = 1#1) : (cc0_scratch3.slice (Rect.unit (s := S4) (k0_off1 i) S1.size (k0_off1_inb i h))).squeeze S_ squeezes_S1_S_ = outCell (Ring.sl 4 (stp i)) := outCell_of _ (k0_off1_eq i) _
@[sl_canon] theorem outCell_now (i : grid0.Coords) : (cc0_scratch3.slice (Rect.unit (s := S4) (k0_off42 i) S1.size (k0_off42_inb i))).squeeze S_ squeezes_S1_S_ = outCell (Ring.sl 4 (stp i)) := outCell_of _ (k0_off42_eq i) _
theorem off2_eq : ∀ i : grid0.Coords, k0_cond2 i = 1#1 → k0_off2 i = ![0, 16384 * (Ring.bk 16 (stp i - 4)).val] := by decide +kernel
@[sl_canon] theorem oBlk_past (i : grid0.Coords) (h : k0_cond2 i = 1#1) : oM.slice (Rect.unit (s := S128x262144) (k0_off2 i) S128x16384.size (k0_off2_inb i h)) (fun _ => rfl) = oBlk (Ring.bk 16 (stp i - 4)) := oBlk_of _ (off2_eq i h) _
@[sl_canon] theorem oBlk_now (i : grid0.Coords) : oM.slice (Rect.unit (s := S128x262144) (k0_off43 i) S128x16384.size (k0_off43_inb i)) (fun _ => rfl) = oBlk (Ring.bk 16 (stp i)) :=
  oBlk_of _ ((k0_off43_eq i).trans (by rw [Ring.bk_val (stp_lt i)])) _
/-- What the last step names when it waits for the last four copies. -/
@[sl_canon] theorem outSlot_d0 (i : grid0.Coords) (h : k0_cond6 i = 1#1) : (outM.slice (Rect.unit (s := S4x128x16384) (k0_off50 12#32) S1x128x16384.size (k0_off50_inb i h 0)) (fun _ => rfl)).squeeze S128x16384 squeezes_S1x128x16384_S128x16384 = outSlot 0 := outSlot_of 0 (k0_off50_eq 0) _
@[sl_canon] theorem outSlot_d1 (i : grid0.Coords) (h : k0_cond6 i = 1#1) : (outM.slice (Rect.unit (s := S4x128x16384) (k0_off50 13#32) S1x128x16384.size (k0_off50_inb i h 1)) (fun _ => rfl)).squeeze S128x16384 squeezes_S1x128x16384_S128x16384 = outSlot 1 := outSlot_of 1 (k0_off50_eq 1) _
@[sl_canon] theorem outSlot_d2 (i : grid0.Coords) (h : k0_cond6 i = 1#1) : (outM.slice (Rect.unit (s := S4x128x16384) (k0_off50 14#32) S1x128x16384.size (k0_off50_inb i h 2)) (fun _ => rfl)).squeeze S128x16384 squeezes_S1x128x16384_S128x16384 = outSlot 2 := outSlot_of 2 (k0_off50_eq 2) _
@[sl_canon] theorem outSlot_d3 (i : grid0.Coords) (h : k0_cond6 i = 1#1) : (outM.slice (Rect.unit (s := S4x128x16384) (k0_off50 15#32) S1x128x16384.size (k0_off50_inb i h 3)) (fun _ => rfl)).squeeze S128x16384 squeezes_S1x128x16384_S128x16384 = outSlot 3 := outSlot_of 3 (k0_off50_eq 3) _
@[sl_canon] theorem outCell_d0 (i : grid0.Coords) (h : k0_cond6 i = 1#1) : (cc0_scratch3.slice (Rect.unit (s := S4) (k0_off49 12#32) S1.size (k0_off49_inb i h 0))).squeeze S_ squeezes_S1_S_ = outCell 0 := outCell_of 0 (k0_off49_eq 0) _
@[sl_canon] theorem outCell_d1 (i : grid0.Coords) (h : k0_cond6 i = 1#1) : (cc0_scratch3.slice (Rect.unit (s := S4) (k0_off49 13#32) S1.size (k0_off49_inb i h 1))).squeeze S_ squeezes_S1_S_ = outCell 1 := outCell_of 1 (k0_off49_eq 1) _
@[sl_canon] theorem outCell_d2 (i : grid0.Coords) (h : k0_cond6 i = 1#1) : (cc0_scratch3.slice (Rect.unit (s := S4) (k0_off49 14#32) S1.size (k0_off49_inb i h 2))).squeeze S_ squeezes_S1_S_ = outCell 2 := outCell_of 2 (k0_off49_eq 2) _
@[sl_canon] theorem outCell_d3 (i : grid0.Coords) (h : k0_cond6 i = 1#1) : (cc0_scratch3.slice (Rect.unit (s := S4) (k0_off49 15#32) S1.size (k0_off49_inb i h 3))).squeeze S_ squeezes_S1_S_ = outCell 3 := outCell_of 3 (k0_off49_eq 3) _

end Which

end Cert.Kernel.Queue

end
-- ==== Proof.Kernel.Rings.lean ====
/-
  What the kernel holds between two steps. The input ring: three scratch slots, each free or receiving a block of the
  queue. The output ring: four scratch slots, each free or being copied out to a block of the result, with the blocks of
  the result not yet written and those already written. Here are both, as propositions of the step number, and how the
  launch's buffers become the first state and the last state becomes the launch's buffers again.
-/
module

public import proofs.«01_k».proof.Proof.Kernel.Names

@[expose] public section

set_option maxRecDepth 16384

noncomputable section

namespace Cert.Kernel.Queue

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The contents of the buffer that `M` names, on core `c`. -/
abbrev BufOf (c : Dev nD) {sp : Space} {S : Shape} {e : EltTy} (M : Memref sig .tc sp S e) : Type :=
  Buf (Elt F) (M.view.loc (c : Thread nD τ))

/-- The core owes no signal; which waits it has recorded does not matter. -/
abbrev Owes (c : Dev nD) : sProp 𝕄 := iprop(∃ W, owes (c : Thread nD τ) 0 W)

/-- What a copy of a whole buffer leaves is what it brought. -/
theorem read_landed {sp : Space} {S : Shape} {e : EltTy} (v : View sig .tc sp S e) (f : v.ty.Contents (Elt F)) (w : S.Idx → Elt F e) :
    v.read (Elt F) (v.writes (Elt F) f [⟨Rect.whole S, w⟩]) = w :=
  funext fun y => View.read_writes_cons_hit v f (Rect.whole S) w [] y y (Rect.emb_whole_apply S y)

/-! ## The input ring -/

section In
variable (c : Dev nD) (Q : BufOf (F := F) c qM)

/-- The share of the queue that slot `s` reads by. -/
abbrev qShare (s : Fin 3) : PosShare TreeShare :=
  if s.val = 0 then fullShare.left else if s.val = 1 then fullShare.right.left else fullShare.right.right
/-- Input slot `s` held at `f`. -/
abbrev inHas (s : Fin 3) (f : BufOf (F := F) c (inSlot s)) : sProp 𝕄 :=
  (inSlot s).view.loc (c : Thread nD τ) ↦[(inSlot s).view.set]{fullShare} f
/-- Slot `s`'s share of block `b` of the queue. -/
abbrev qPart (s : Fin 3) (b : Fin 16) : sProp 𝕄 :=
  (qBlk b).view.loc (c : Thread nD τ) ↦[(qBlk b).view.set]{qShare s} Q
/-- Slot `s`'s share of the rest of the queue. -/
def qRest (s : Fin 3) (b : Fin 16) : sProp 𝕄 :=
  ((c : Thread nD τ).loc main_arg1) ↦[Finset.univ \ (qBlk b).view.set]{qShare s} Q
/-- Slot `s`'s share of the queue. -/
abbrev qWhole (s : Fin 3) : sProp 𝕄 := ((c : Thread nD τ).loc main_arg1) ↦[Finset.univ]{qShare s} Q
/-- Slot `s` after block `b` landed in it. -/
abbrev inLanded (s : Fin 3) (b : Fin 16) (f : BufOf (F := F) c (inSlot s)) : BufOf (F := F) c (inSlot s) :=
  (inSlot s).view.writes (Elt F) f [⟨Rect.whole S16384x128, ReadAs.same.apply ((qBlk b).view.read (Elt F) Q)⟩]
/-- Slot `s` free, with its share of the queue. -/
def inFree (s : Fin 3) : sProp 𝕄 :=
  iprop(semVal ((c : Thread nD τ), inLoc s) 0 ∗ ∃ f, inHas c s f ∗ qWhole c Q s)
/-- Slot `s` receiving block `b`. -/
def inFly (s : Fin 3) (b : Fin 16) : sProp 𝕄 :=
  iprop(∃ f, Transfers.Flight countersEmb (c : Thread nD τ) (inLoc s) default ((inSlot s).view.amount (inLoc s))
      iprop(inHas c s (inLanded c Q s b f) ∗ qPart c Q s b) ∗ qRest c Q s b)
/-- Slot `s` holding block `b`. -/
def inFull (s : Fin 3) (b : Fin 16) : sProp 𝕄 :=
  iprop(semVal ((c : Thread nD τ), inLoc s) 0 ∗ qWhole c Q s ∗
    ∃ f : BufOf (F := F) c (inSlot s), inHas c s f ∗ ⌜(inSlot s).view.read (Elt F) f = (qBlk b).view.read (Elt F) Q⌝)
/-- The slot of block `k`, before step `k` waits for it. -/
def inRole (k : ℕ) : sProp 𝕄 :=
  if k < 16 then inFly c Q (Ring.sl 3 k) (Ring.bk 16 k) else inFree c Q (Ring.sl 3 k)
/-- The input ring while step `t` runs, its first copies started. -/
def inRun (t : ℕ) : sProp 𝕄 := iprop(inRole c Q t ∗ inRole c Q (t + 1) ∗ inRole c Q (t + 2))
/-- The input ring before step `t`. -/
def inRing (t : ℕ) : sProp 𝕄 :=
  if t = 0 then iprop(inFree c Q 0 ∗ inFree c Q 1 ∗ inFree c Q 2) else inRun c Q t

theorem qWhole_split (s : Fin 3) (b : Fin 16) : qWhole c Q s ⊣⊢ iprop(qPart c Q s b ∗ qRest c Q s b) := by
  unfold qRest; exact pointsTo_split_subset (Finset.subset_univ _)

/-- The queue whole is the slots' three shares of it. -/
theorem q_split : (((c : Thread nD τ).loc main_arg1) ↦{fullShare} Q : sProp 𝕄) ⊣⊢ iprop(qWhole c Q 0 ∗ qWhole c Q 1 ∗ qWhole c Q 2) := by
  constructor
  · iintro H
    ihave H := (pointsTo_share (PosShare.mem_left_op_right fullShare)).1 $$ H
    icases H with ⟨Ha, Hb⟩
    ihave Hb := (pointsTo_share (PosShare.mem_left_op_right fullShare.right)).1 $$ Hb
    icases Hb with ⟨Hb, Hd⟩
    isplitl [Ha]; · iexact Ha
    isplitl [Hb]; · iexact Hb
    iexact Hd
  · iintro ⟨Ha, Hb, Hd⟩
    iapply (pointsTo_share (PosShare.mem_left_op_right fullShare)).2
    isplitl [Ha]; · iexact Ha
    iapply (pointsTo_share (PosShare.mem_left_op_right fullShare.right)).2
    isplitl [Hb]; · iexact Hb
    iexact Hd

end In

/-! ### The slots cover the scratch -/

abbrev inSet (s : Fin 3) : Finset S3x16384x128.Idx := (Rect.unit (s := S3x16384x128) ![s.val, 0, 0] S1x16384x128.size (inSlot_inb s)).set
theorem inSet_eq (s : Fin 3) : (inSlot s).view.set = inSet s := by
  simp only [inSlot, Memref.view_squeeze, View.set_reshape]; exact View.set_slice_whole _ _
theorem inSet_disjoint (s s' : Fin 3) (h : s ≠ s') : Disjoint (inSet s) (inSet s') :=
  Ring.lead_disjoint (s := S3x16384x128) (0 : Fin 3) 1 (fun s : Fin 3 => (![s.val, 0, 0] : Fin 3 → Nat)) S1x16384x128.size inSlot_inb (fun s => by simp) rfl s s' h
theorem inSet_cover : Finset.univ.biUnion inSet = Finset.univ :=
  Ring.lead_cover (s := S3x16384x128) (0 : Fin 3) 1 (fun s : Fin 3 => (![s.val, 0, 0] : Fin 3 → Nat)) S1x16384x128.size inSlot_inb (fun s => by simp)
    (fun s a ha => by fin_cases a <;> first | exact absurd rfl ha | rfl) rfl (fun a ha => by fin_cases a <;> first | exact absurd rfl ha | rfl) rfl

abbrev outSet (s : Fin 4) : Finset S4x128x16384.Idx := (Rect.unit (s := S4x128x16384) ![s.val, 0, 0] S1x128x16384.size (outSlot_inb s)).set
theorem outSet_eq (s : Fin 4) : (outSlot s).view.set = outSet s := by
  simp only [outSlot, Memref.view_squeeze, View.set_reshape]; exact View.set_slice_whole _ _
theorem outSet_disjoint (s s' : Fin 4) (h : s ≠ s') : Disjoint (outSet s) (outSet s') :=
  Ring.lead_disjoint (s := S4x128x16384) (0 : Fin 3) 1 (fun s : Fin 4 => (![s.val, 0, 0] : Fin 3 → Nat)) S1x128x16384.size outSlot_inb (fun s => by simp) rfl s s' h
theorem outSet_cover : Finset.univ.biUnion outSet = Finset.univ :=
  Ring.lead_cover (s := S4x128x16384) (0 : Fin 3) 1 (fun s : Fin 4 => (![s.val, 0, 0] : Fin 3 → Nat)) S1x128x16384.size outSlot_inb (fun s => by simp)
    (fun s a ha => by fin_cases a <;> first | exact absurd rfl ha | rfl) rfl (fun a ha => by fin_cases a <;> first | exact absurd rfl ha | rfl) rfl

abbrev oSet (b : Fin 16) : Finset S128x262144.Idx := (Rect.unit (s := S128x262144) ![0, 16384 * b.val] S128x16384.size (oBlk_inb b)).set
theorem oSet_eq (b : Fin 16) : (oBlk b).view.set = oSet b := by
  simp only [oBlk]; exact View.set_slice_whole _ _
theorem oSet_disjoint (s s' : Fin 16) (h : s ≠ s') : Disjoint (oSet s) (oSet s') :=
  Ring.lead_disjoint (s := S128x262144) (1 : Fin 2) 16384 (fun s : Fin 16 => (![0, 16384 * s.val] : Fin 2 → Nat)) S128x16384.size oBlk_inb (fun s => by simp) rfl s s' h
theorem oSet_cover : Finset.univ.biUnion oSet = Finset.univ :=
  Ring.lead_cover (s := S128x262144) (1 : Fin 2) 16384 (fun s : Fin 16 => (![0, 16384 * s.val] : Fin 2 → Nat)) S128x16384.size oBlk_inb (fun s => by simp)
    (fun s a ha => by fin_cases a <;> first | exact absurd rfl ha | rfl) rfl (fun a ha => by fin_cases a <;> first | exact absurd rfl ha | rfl) rfl

/-! ## The output ring -/

section Out
variable (c : Dev nD) (V₀ G : BufOf (F := F) c oM)

/-- Output slot `s` held at `f`. -/
abbrev outHas (s : Fin 4) (f : BufOf (F := F) c (outSlot s)) : sProp 𝕄 :=
  (outSlot s).view.loc (c : Thread nD τ) ↦[(outSlot s).view.set]{fullShare} f
/-- Block `b` of the result held at `f`. -/
abbrev oHas (b : Fin 16) (f : BufOf (F := F) c oM) : sProp 𝕄 :=
  (oBlk b).view.loc (c : Thread nD τ) ↦[(oBlk b).view.set]{fullShare} f
/-- Block `b` of the result held at `f`; folded, so that a step sees only the block it names. -/
def oKept (f : BufOf (F := F) c oM) (b : Fin 16) : sProp 𝕄 := oHas c b f
/-- Block `b` of the result after slot `s`, holding `g`, landed on it. -/
abbrev oLanded (s : Fin 4) (b : Fin 16) (g : BufOf (F := F) c (outSlot s)) : BufOf (F := F) c oM :=
  (oBlk b).view.writes (Elt F) V₀ [⟨Rect.whole S128x16384, ReadAs.same.apply ((outSlot s).view.read (Elt F) g)⟩]
/-- Slot `s` free. -/
def outFree (s : Fin 4) : sProp 𝕄 := iprop(semVal ((c : Thread nD τ), outLoc s) 0 ∗ ∃ f, outHas c s f)
/-- Slot `s` filled with block `b` of the result. -/
def outFull (s : Fin 4) (b : Fin 16) : sProp 𝕄 :=
  iprop(semVal ((c : Thread nD τ), outLoc s) 0 ∗
    ∃ g : BufOf (F := F) c (outSlot s), outHas c s g ∗ ⌜(outSlot s).view.read (Elt F) g = (oBlk b).view.read (Elt F) G⌝)
/-- Slot `s` being copied out to block `b`. -/
def outFly (s : Fin 4) (b : Fin 16) : sProp 𝕄 :=
  iprop(∃ g : BufOf (F := F) c (outSlot s),
    Transfers.Flight countersEmb (c : Thread nD τ) (outLoc s) default ((oBlk b).view.amount (outLoc s))
      iprop(oHas c b (oLanded c V₀ s b g) ∗ outHas c s g)
    ∗ ⌜(outSlot s).view.read (Elt F) g = (oBlk b).view.read (Elt F) G⌝)
/-- The slot that step `q` fills, before step `q`. -/
def outRole (q : ℕ) : sProp 𝕄 :=
  if q < 4 then outFree c (Ring.sl 4 q) else outFly c V₀ G (Ring.sl 4 q) (Ring.bk 16 (q - 4))
/-- The blocks of the result that no step before `t` has sent. -/
def oAhead (t : ℕ) : sProp 𝕄 := bigSep (Ring.aheadSet t) (oKept c V₀)
/-- The blocks of the result landed before step `t`. -/
def oBehind (t : ℕ) : sProp 𝕄 := bigSep (Ring.behindSet 4 t) (oKept c G)
/-- The output ring before step `t`. -/
def outRing (t : ℕ) : sProp 𝕄 :=
  if t < 16 then iprop((outRole c V₀ G t ∗ outRole c V₀ G (t + 1) ∗ outRole c V₀ G (t + 2) ∗ outRole c V₀ G (t + 3)) ∗ oAhead c V₀ t ∗ oBehind c G t)
  else iprop((outFree c 0 ∗ outFree c 1 ∗ outFree c 2 ∗ outFree c 3) ∗ bigSep Finset.univ (oKept c G))

/-- A block that the slot landed on is the block of the result wanted. -/
theorem oLanded_kept (s : Fin 4) (b : Fin 16) (g : BufOf (F := F) c (outSlot s))
    (h : (outSlot s).view.read (Elt F) g = (oBlk b).view.read (Elt F) G) :
    oHas c b (oLanded c V₀ s b g) ⊢ oKept c G b := by
  unfold oKept
  have e : oHas c b (oLanded c V₀ s b g) = oHas c b G := pointsTo_congr fun i hi => by
    obtain ⟨x, -, rfl⟩ := Finset.mem_map.mp hi
    exact View.eq_of_read_eq (v := (oBlk b).view) (congrFun ((read_landed _ _ _).trans h) x)
  rw [e]

end Out

end Cert.Kernel.Queue

end
-- ==== Proof.Kernel.Pieces.lean ====
/-
  The kernel's step cut into its pieces, each a program of its own, and the equation that says the step is the pieces in
  sequence. The pieces: start the first three copies in; wait for the copy out of four steps ago; wait for this step's
  copy in; fill the output slot (one way or the other); start the copy out; start the copy in of three steps ahead; copy
  the step's rows of the new keys; and, at the end, wait for the last four copies out.
-/
module

public import proofs.«01_k».proof.Proof.Kernel.Names
public import Idealize.ShloMosaic.Lib.Tactic.ProgEq

@[expose] public section

set_option maxRecDepth 16384

noncomputable section

namespace Cert.Kernel.Queue

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A program of the kernel's body. -/
abbrev Step (α : Type) := Prog (TpuEff nD τ sig (Elt F) Λ₀ .tc) α

/-- The write position the kernel uses: the table's word kept between 0 and 258048. -/
abbrev posW (v2 : BitVec 32) : BitVec 32 := Scalar.minsi 258048#32 (Scalar.maxsi 0#32 v2)
/-- The first row of the step, as the kernel's word. -/
abbrev rowW (i : grid0.Coords) : BitVec 32 := Scalar.muli (BitVec.ofNat 32 (i 0).val) 16384#32
/-- The condition that the step's rows do not meet the rows written. -/
def notOver (i : grid0.Coords) (v2 : BitVec 32) : BitVec 1 :=
  Scalar.cmpi .ne (Scalar.extui (Scalar.xori (Scalar.andi (Scalar.cmpi .sgt (Scalar.addi (rowW i) 16384#32) (posW v2))
    (Scalar.cmpi .slt (rowW i) (Scalar.addi (posW v2) 4096#32))) 1#1) : BitVec 32) 0#32

/-- Start the copies of the first three row blocks, at the first step. -/
def startInK {α : Type} (i : grid0.Coords) (k : Step (F := F) α) : Step (F := F) α := do
  if _h1 : atStart i then do
    Prog.lift (.enqueueDma (qM.slice (Rect.unit (s := S262144x128) ![0, 0] S16384x128.size inb_S262144x128_S16384x128_0_0) (fun _ => rfl)) (.here ((inM.slice (Rect.unit (s := S3x16384x128) ![0, 0, 0] S1x16384x128.size inb_S3x16384x128_S1x16384x128_0_0_0) (fun _ => rfl)).squeeze S16384x128 squeezes_S1x16384x128_S16384x128)) (.dma ((cc0_scratch2.slice (Rect.unit (s := S3) ![0] S1.size inb_S3_S1_0)).squeeze S_ squeezes_S1_S_).sem) (View.wordExact_bits rfl) ((View.wordExact_bits rfl).reshape _ _) ⟨Or.inl rfl, trivial⟩)
    Prog.lift (.enqueueDma (qM.slice (Rect.unit (s := S262144x128) ![16384, 0] S16384x128.size inb_S262144x128_S16384x128_16384_0) (fun _ => rfl)) (.here ((inM.slice (Rect.unit (s := S3x16384x128) ![1, 0, 0] S1x16384x128.size inb_S3x16384x128_S1x16384x128_1_0_0) (fun _ => rfl)).squeeze S16384x128 squeezes_S1x16384x128_S16384x128)) (.dma ((cc0_scratch2.slice (Rect.unit (s := S3) ![1] S1.size inb_S3_S1_1)).squeeze S_ squeezes_S1_S_).sem) (View.wordExact_bits rfl) ((View.wordExact_bits rfl).reshape _ _) ⟨Or.inl rfl, trivial⟩)
    Prog.lift (.enqueueDma (qM.slice (Rect.unit (s := S262144x128) ![32768, 0] S16384x128.size inb_S262144x128_S16384x128_32768_0) (fun _ => rfl)) (.here ((inM.slice (Rect.unit (s := S3x16384x128) ![2, 0, 0] S1x16384x128.size inb_S3x16384x128_S1x16384x128_2_0_0) (fun _ => rfl)).squeeze S16384x128 squeezes_S1x16384x128_S16384x128)) (.dma ((cc0_scratch2.slice (Rect.unit (s := S3) ![2] S1.size inb_S3_S1_2)).squeeze S_ squeezes_S1_S_).sem) (View.wordExact_bits rfl) ((View.wordExact_bits rfl).reshape _ _) ⟨Or.inl rfl, trivial⟩)
    k
  else k
@[inherit_doc startInK] def startIn (i : grid0.Coords) : Step (F := F) PUnit := startInK i (pure ⟨⟩)
theorem startInK_eq {α : Type} (i : grid0.Coords) (k : Step (F := F) α) : startInK i k = (startIn i >>= fun _ => k) := by
  unfold startIn startInK; split <;> rfl

/-- Wait for the copy out of four steps ago. -/
def waitPastK {α : Type} (i : grid0.Coords) (k : Step (F := F) α) : Step (F := F) α := do
  if k0_h2 : k0_cond2 i = 1#1 then do
    Prog.lift (.waitDma2 ((cc0_scratch3.slice (Rect.unit (s := S4) (k0_off1 i) S1.size (k0_off1_inb i k0_h2))).squeeze S_ squeezes_S1_S_).sem ((outM.slice (Rect.unit (s := S4x128x16384) (k0_off3 i) S1x128x16384.size (k0_off3_inb i k0_h2)) (fun _ => rfl)).squeeze S128x16384 squeezes_S1x128x16384_S128x16384) (oM.slice (Rect.unit (s := S128x262144) (k0_off2 i) S128x16384.size (k0_off2_inb i k0_h2)) (fun _ => rfl)) ((View.wordExact_bits rfl).reshape _ _) (View.wordExact_bits rfl))
    k
  else k
@[inherit_doc waitPastK] def waitPast (i : grid0.Coords) : Step (F := F) PUnit := waitPastK i (pure ⟨⟩)
theorem waitPastK_eq {α : Type} (i : grid0.Coords) (k : Step (F := F) α) : waitPastK i k = (waitPast i >>= fun _ => k) := by
  unfold waitPast waitPastK; split <;> rfl

/-- Wait for this step's copy in. -/
def waitNow (i : grid0.Coords) : Step (F := F) PUnit := do
  Prog.lift (.waitDma2 ((cc0_scratch2.slice (Rect.unit (s := S3) (k0_off4 i) S1.size (k0_off4_inb i))).squeeze S_ squeezes_S1_S_).sem (qM.slice (Rect.unit (s := S262144x128) (k0_off6 i) S16384x128.size (k0_off6_inb i)) (fun _ => rfl)) ((inM.slice (Rect.unit (s := S3x16384x128) (k0_off5 i) S1x16384x128.size (k0_off5_inb i)) (fun _ => rfl)).squeeze S16384x128 squeezes_S1x16384x128_S16384x128) (View.wordExact_bits rfl) ((View.wordExact_bits rfl).reshape _ _))

/-- Fill the output slot where the step meets the rows written: sixteen sub-blocks, each blended by its mask. -/
def blendK {α : Type} (i : grid0.Coords) (arg2 : Memref sig .tc .vmem S6144x128 .f32) (harg2 : arg2.IsWhole) (arg5 : Memref sig .tc .vmem S256x128 .f32) (harg5 : arg5.IsWhole) (v2 : Elt F .i32) (k0_hw1 : k0_chk1 i v2) (k : Step (F := F) α) : Step (F := F) α := do
  let v0 : BitVec 32 := Scalar.remsi (BitVec.ofNat 32 (i 0).val) 3#32
  let v1 : BitVec 32 := Scalar.remsi (BitVec.ofNat 32 (i 0).val) 4#32
  let v4 : BitVec 32 := posW v2
  let v5 : BitVec 32 := rowW i
  if k0_h3 : k0_cond3 i v2 = 1#1 then do
    let ⟨v82, v85, v87, v89⟩ : Σ' (v82 : FVec F S1024x128 .f32) (v85 : IVec S1024x1 32) (v87 : IVec S1024x1 1), IVec S1024x1 32 ← k0_part1 i ptM (Memref.isWhole_whole _) arg2 harg2 qM (Memref.isWhole_whole _) oM (Memref.isWhole_whole _) arg5 harg5 inM (Memref.isWhole_whole _) outM (Memref.isWhole_whole _) cc0_scratch2 cc0_scratch3 v0 v1 v2 k0_hw1 v4 v5 k0_h3
    let ⟨v131, v132⟩ : Σ' (v131 : BitVec 32), BitVec 32 ← k0_part2 i ptM (Memref.isWhole_whole _) arg2 harg2 qM (Memref.isWhole_whole _) oM (Memref.isWhole_whole _) arg5 harg5 inM (Memref.isWhole_whole _) outM (Memref.isWhole_whole _) cc0_scratch2 cc0_scratch3 v0 v1 v2 k0_hw1 v4 v5 k0_h3 v82 v85 v87 v89
    let ⟨v166, v175⟩ : Σ' (v166 : FVec F S1024x128 .f32), IVec S1024x1 1 ← k0_part3 i ptM (Memref.isWhole_whole _) arg2 harg2 qM (Memref.isWhole_whole _) oM (Memref.isWhole_whole _) arg5 harg5 inM (Memref.isWhole_whole _) outM (Memref.isWhole_whole _) cc0_scratch2 cc0_scratch3 v0 v1 v2 k0_hw1 v4 v5 k0_h3 v131 v132
    let ⟨v215, c4096_i32_73, v217⟩ : Σ' (v215 : BitVec 32) (c4096_i32_73 : BitVec 32), BitVec 32 ← k0_part4 i ptM (Memref.isWhole_whole _) arg2 harg2 qM (Memref.isWhole_whole _) oM (Memref.isWhole_whole _) arg5 harg5 inM (Memref.isWhole_whole _) outM (Memref.isWhole_whole _) cc0_scratch2 cc0_scratch3 v0 v1 v2 k0_hw1 v4 v5 k0_h3 v166 v175
    let ⟨v250, v259, v261⟩ : Σ' (v250 : FVec F S1024x128 .f32) (v259 : IVec S1024x1 1), Vec F S1x1024x128 .f32 ← k0_part5 i ptM (Memref.isWhole_whole _) arg2 harg2 qM (Memref.isWhole_whole _) oM (Memref.isWhole_whole _) arg5 harg5 inM (Memref.isWhole_whole _) outM (Memref.isWhole_whole _) cc0_scratch2 cc0_scratch3 v0 v1 v2 k0_hw1 v4 v5 k0_h3 v215 c4096_i32_73 v217
    let ⟨v299, v303⟩ : Σ' (v299 : BitVec 32), BitVec 32 ← k0_part6 i ptM (Memref.isWhole_whole _) arg2 harg2 qM (Memref.isWhole_whole _) oM (Memref.isWhole_whole _) arg5 harg5 inM (Memref.isWhole_whole _) outM (Memref.isWhole_whole _) cc0_scratch2 cc0_scratch3 v0 v1 v2 k0_hw1 v4 v5 k0_h3 v250 v259 v261
    let ⟨v334, v346, v348⟩ : Σ' (v334 : FVec F S1024x128 .f32) (v346 : FVec F S1024x128 .f32), IVec S1024x128 1 ← k0_part7 i ptM (Memref.isWhole_whole _) arg2 harg2 qM (Memref.isWhole_whole _) oM (Memref.isWhole_whole _) arg5 harg5 inM (Memref.isWhole_whole _) outM (Memref.isWhole_whole _) cc0_scratch2 cc0_scratch3 v0 v1 v2 k0_hw1 v4 v5 k0_h3 v299 v303
    let ⟨v383, v389⟩ : Σ' (v383 : BitVec 32), Vec F S1024x128 .f32 ← k0_part8 i ptM (Memref.isWhole_whole _) arg2 harg2 qM (Memref.isWhole_whole _) oM (Memref.isWhole_whole _) arg5 harg5 inM (Memref.isWhole_whole _) outM (Memref.isWhole_whole _) cc0_scratch2 cc0_scratch3 v0 v1 v2 k0_hw1 v4 v5 k0_h3 v334 v346 v348
    let v434 : FVec F S128x1024 .f32 ← k0_part9 i ptM (Memref.isWhole_whole _) arg2 harg2 qM (Memref.isWhole_whole _) oM (Memref.isWhole_whole _) arg5 harg5 inM (Memref.isWhole_whole _) outM (Memref.isWhole_whole _) cc0_scratch2 cc0_scratch3 v0 v1 v2 k0_hw1 v4 v5 k0_h3 v383 v389
    let ⟨v474, v475, v476⟩ : Σ' (v474 : FVec F S1024x128 .f32) (v475 : IVec S1024x1 32), IVec S1024x1 32 ← k0_part10 i ptM (Memref.isWhole_whole _) arg2 harg2 qM (Memref.isWhole_whole _) oM (Memref.isWhole_whole _) arg5 harg5 inM (Memref.isWhole_whole _) outM (Memref.isWhole_whole _) cc0_scratch2 cc0_scratch3 v0 v1 v2 k0_hw1 v4 v5 k0_h3 v434
    let v485 : Vec F S1x1024x128 .f32 ← Prog.lift (.load inM (Rect.unit (s := S3x16384x128) (k0_off38 i) S1x1024x128.size (k0_off38_inb i)).toLoadRect (View.loadsAt_vmem h_S1x1024x128))
    let v492 : Vec F S1x128x1024 .f32 ← Prog.lift (.load outM (Rect.unit (s := S4x128x16384) (k0_off39 i) S1x128x1024.size (k0_off39_inb i)).toLoadRect (View.loadsAt_vmem h_S1x128x1024))
    Prog.lift (.store outM (Rect.unit (s := S4x128x16384) (k0_off39 i) S1x128x1024.size (k0_off39_inb i)) (k0_pay31 v2 v474 v475 v476 v485) Finset.univ (View.stores_vmem_bits_univ h_S1x128x1024 rfl) (.inl rfl))
    k
  else k
@[inherit_doc blendK] def blend (i : grid0.Coords) (arg2 : Memref sig .tc .vmem S6144x128 .f32) (harg2 : arg2.IsWhole) (arg5 : Memref sig .tc .vmem S256x128 .f32) (harg5 : arg5.IsWhole) (v2 : Elt F .i32) (k0_hw1 : k0_chk1 i v2) : Step (F := F) PUnit := blendK i arg2 harg2 arg5 harg5 v2 k0_hw1 (pure ⟨⟩)
theorem blendK_eq {α : Type} (i : grid0.Coords) (arg2 : Memref sig .tc .vmem S6144x128 .f32) (harg2 : arg2.IsWhole) (arg5 : Memref sig .tc .vmem S256x128 .f32) (harg5 : arg5.IsWhole) (v2 : Elt F .i32) (k0_hw1 : k0_chk1 i v2) (k : Step (F := F) α) : blendK i arg2 harg2 arg5 harg5 v2 k0_hw1 k = (blend i arg2 harg2 arg5 harg5 v2 k0_hw1 >>= fun _ => k) := by
  unfold blend blendK; split <;> rfl

/-- Fill the output slot where it does not: the whole block transposed. -/
def plainK {α : Type} (i : grid0.Coords) (v2 : Elt F .i32) (k : Step (F := F) α) : Step (F := F) α := do
  if notOver i v2 = 1#1 then do
    let v48 : Vec F S1x16384x128 .f32 ← Prog.lift (.load inM (Rect.unit (s := S3x16384x128) (k0_off40 i) S1x16384x128.size (k0_off40_inb i)).toLoadRect (View.loadsAt_vmem h_S1x16384x128))
    let v52 : Vec F S1x128x16384 .f32 ← Prog.lift (.load outM (Rect.unit (s := S4x128x16384) (k0_off41 i) S1x128x16384.size (k0_off41_inb i)).toLoadRect (View.loadsAt_vmem h_S1x128x16384))
    Prog.lift (.store outM (Rect.unit (s := S4x128x16384) (k0_off41 i) S1x128x16384.size (k0_off41_inb i)) (k0_pay32 v48) Finset.univ (View.stores_vmem_bits_univ h_S1x128x16384 rfl) (.inl rfl))
    k
  else k
@[inherit_doc plainK] def plain (i : grid0.Coords) (v2 : Elt F .i32) : Step (F := F) PUnit := plainK i v2 (pure ⟨⟩)
theorem plainK_eq {α : Type} (i : grid0.Coords) (v2 : Elt F .i32) (k : Step (F := F) α) : plainK i v2 k = (plain i v2 >>= fun _ => k) := by
  unfold plain plainK; split <;> rfl

/-- Start the copy out of the output slot. -/
def sendOut (i : grid0.Coords) : Step (F := F) PUnit := do
  Prog.lift (.enqueueDma ((outM.slice (Rect.unit (s := S4x128x16384) (k0_off44 i) S1x128x16384.size (k0_off44_inb i)) (fun _ => rfl)).squeeze S128x16384 squeezes_S1x128x16384_S128x16384) (.here (oM.slice (Rect.unit (s := S128x262144) (k0_off43 i) S128x16384.size (k0_off43_inb i)) (fun _ => rfl))) (.dma ((cc0_scratch3.slice (Rect.unit (s := S4) (k0_off42 i) S1.size (k0_off42_inb i))).squeeze S_ squeezes_S1_S_).sem) ((View.wordExact_bits rfl).reshape _ _) (View.wordExact_bits rfl) ⟨Or.inl rfl, trivial⟩)

/-- Start the copy in of the row block three steps ahead. -/
def sendInK {α : Type} (i : grid0.Coords) (k : Step (F := F) α) : Step (F := F) α := do
  if k0_h5 : k0_cond5 i = 1#1 then do
    Prog.lift (.enqueueDma (qM.slice (Rect.unit (s := S262144x128) (k0_off47 i) S16384x128.size (k0_off47_inb i k0_h5)) (fun _ => rfl)) (.here ((inM.slice (Rect.unit (s := S3x16384x128) (k0_off46 i) S1x16384x128.size (k0_off46_inb i k0_h5)) (fun _ => rfl)).squeeze S16384x128 squeezes_S1x16384x128_S16384x128)) (.dma ((cc0_scratch2.slice (Rect.unit (s := S3) (k0_off45 i) S1.size (k0_off45_inb i k0_h5))).squeeze S_ squeezes_S1_S_).sem) (View.wordExact_bits rfl) ((View.wordExact_bits rfl).reshape _ _) ⟨Or.inl rfl, trivial⟩)
    k
  else k
@[inherit_doc sendInK] def sendIn (i : grid0.Coords) : Step (F := F) PUnit := sendInK i (pure ⟨⟩)
theorem sendInK_eq {α : Type} (i : grid0.Coords) (k : Step (F := F) α) : sendInK i k = (sendIn i >>= fun _ => k) := by
  unfold sendIn sendInK; split <;> rfl

/-- Copy the step's 256 rows of the new keys into the staging block. -/
def newKeys (i : grid0.Coords) (arg2 : Memref sig .tc .vmem S6144x128 .f32) (arg5 : Memref sig .tc .vmem S256x128 .f32) : Step (F := F) PUnit := do
  let v41 : Vec F S256x128 .f32 ← Prog.lift (.load arg2 (Rect.unit (s := S6144x128) (k0_off48 i) S256x128.size (k0_off48_inb i)).toLoadRect (View.loadsAt_vmem h_S256x128))
  let v43 : Vec F S256x128 .f32 ← Prog.lift (.load arg5 (Rect.unit (s := S256x128) ![0, 0] S256x128.size inb_S256x128_S256x128_0_0).toLoadRect (View.loadsAt_vmem h_S256x128))
  Prog.lift (.store arg5 (Rect.unit (s := S256x128) ![0, 0] S256x128.size inb_S256x128_S256x128_0_0) (k0_pay1 v41) Finset.univ (View.stores_vmem_bits_univ h_S256x128 rfl) (.inl rfl))

/-- Wait for the last four copies out, at the last step. -/
def drainK {α : Type} (i : grid0.Coords) (k : Step (F := F) α) : Step (F := F) α := do
  if k0_h6 : k0_cond6 i = 1#1 then do
    Prog.lift (.waitDma2 ((cc0_scratch3.slice (Rect.unit (s := S4) (k0_off49 12#32) S1.size (k0_off49_inb i k0_h6 0))).squeeze S_ squeezes_S1_S_).sem ((outM.slice (Rect.unit (s := S4x128x16384) (k0_off50 12#32) S1x128x16384.size (k0_off50_inb i k0_h6 0)) (fun _ => rfl)).squeeze S128x16384 squeezes_S1x128x16384_S128x16384) (oM.slice (Rect.unit (s := S128x262144) ![0, 196608] S128x16384.size inb_S128x262144_S128x16384_0_196608) (fun _ => rfl)) ((View.wordExact_bits rfl).reshape _ _) (View.wordExact_bits rfl))
    Prog.lift (.waitDma2 ((cc0_scratch3.slice (Rect.unit (s := S4) (k0_off49 13#32) S1.size (k0_off49_inb i k0_h6 1))).squeeze S_ squeezes_S1_S_).sem ((outM.slice (Rect.unit (s := S4x128x16384) (k0_off50 13#32) S1x128x16384.size (k0_off50_inb i k0_h6 1)) (fun _ => rfl)).squeeze S128x16384 squeezes_S1x128x16384_S128x16384) (oM.slice (Rect.unit (s := S128x262144) ![0, 212992] S128x16384.size inb_S128x262144_S128x16384_0_212992) (fun _ => rfl)) ((View.wordExact_bits rfl).reshape _ _) (View.wordExact_bits rfl))
    Prog.lift (.waitDma2 ((cc0_scratch3.slice (Rect.unit (s := S4) (k0_off49 14#32) S1.size (k0_off49_inb i k0_h6 2))).squeeze S_ squeezes_S1_S_).sem ((outM.slice (Rect.unit (s := S4x128x16384) (k0_off50 14#32) S1x128x16384.size (k0_off50_inb i k0_h6 2)) (fun _ => rfl)).squeeze S128x16384 squeezes_S1x128x16384_S128x16384) (oM.slice (Rect.unit (s := S128x262144) ![0, 229376] S128x16384.size inb_S128x262144_S128x16384_0_229376) (fun _ => rfl)) ((View.wordExact_bits rfl).reshape _ _) (View.wordExact_bits rfl))
    Prog.lift (.waitDma2 ((cc0_scratch3.slice (Rect.unit (s := S4) (k0_off49 15#32) S1.size (k0_off49_inb i k0_h6 3))).squeeze S_ squeezes_S1_S_).sem ((outM.slice (Rect.unit (s := S4x128x16384) (k0_off50 15#32) S1x128x16384.size (k0_off50_inb i k0_h6 3)) (fun _ => rfl)).squeeze S128x16384 squeezes_S1x128x16384_S128x16384) (oM.slice (Rect.unit (s := S128x262144) ![0, 245760] S128x16384.size inb_S128x262144_S128x16384_0_245760) (fun _ => rfl)) ((View.wordExact_bits rfl).reshape _ _) (View.wordExact_bits rfl))
    k
  else k
@[inherit_doc drainK] def drain (i : grid0.Coords) : Step (F := F) PUnit := drainK i (pure ⟨⟩)
theorem drainK_eq {α : Type} (i : grid0.Coords) (k : Step (F := F) α) : drainK i k = (drain i >>= fun _ => k) := by
  unfold drain drainK; split <;> rfl

/-- The first window of the step is its pieces in sequence. -/
theorem part11_eq (i : grid0.Coords) (arg2 : Memref sig .tc .vmem S6144x128 .f32) (harg2 : arg2.IsWhole) (arg5 : Memref sig .tc .vmem S256x128 .f32) (harg5 : arg5.IsWhole) :
    k0_part11 (F := F) i ptM (Memref.isWhole_whole _) arg2 harg2 qM (Memref.isWhole_whole _) oM (Memref.isWhole_whole _) arg5 harg5 inM (Memref.isWhole_whole _) outM (Memref.isWhole_whole _) cc0_scratch2 cc0_scratch3
      = (do
        let v2 : Elt F .i32 ← smemLoad ptM (Rect.unit (s := S1) ![0] S1.size inb_S1_S1_0) numel1_S1 rfl
        have k0_hw1 : k0_chk1 i v2 := (← Prog.lift (TpuEff.assume (k0_chk1 i v2) (k0_chk1.dec i v2))).down
        startIn i
        waitPast i
        waitNow i
        blend i arg2 harg2 arg5 harg5 v2 k0_hw1
        plain i v2
        pure (BitVec.ofNat 32 (i 0).val)) := by
  simp only [← startInK_eq, ← waitPastK_eq, ← blendK_eq, ← plainK_eq]
  rw [k0_part11_eq_skeleton]
  rfl

/-- The whole step is its pieces in sequence. -/
theorem body_eq (i : grid0.Coords) (arg2 : Memref sig .tc .vmem S6144x128 .f32) (harg2 : arg2.IsWhole) (arg5 : Memref sig .tc .vmem S256x128 .f32) (harg5 : arg5.IsWhole) :
    cc0__body (F := F) i ptM (Memref.isWhole_whole _) arg2 harg2 qM (Memref.isWhole_whole _) oM (Memref.isWhole_whole _) arg5 harg5 inM (Memref.isWhole_whole _) outM (Memref.isWhole_whole _) cc0_scratch2 cc0_scratch3
      = (do
        let _ ← k0_part11 (F := F) i ptM (Memref.isWhole_whole _) arg2 harg2 qM (Memref.isWhole_whole _) oM (Memref.isWhole_whole _) arg5 harg5 inM (Memref.isWhole_whole _) outM (Memref.isWhole_whole _) cc0_scratch2 cc0_scratch3
        sendOut i
        sendIn i
        newKeys i arg2 arg5
        drain i) := by
  simp only [← sendInK_eq]
  rw [cc0__body_eq_skeleton]
  rfl

end Cert.Kernel.Queue

end
-- ==== Proof.Kernel.Steps.lean ====
/-
  What each piece of the step does to the two rings.
-/
module

public import proofs.«01_k».proof.Proof.Kernel.Rings
public import proofs.«01_k».proof.Proof.Kernel.Pieces

@[expose] public section

set_option maxRecDepth 16384

noncomputable section

namespace Cert.Kernel.Queue

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weakest precondition of a piece on core `c`. -/
abbrev WP (c : Dev nD) {α : Type} (p : Step (F := F) α) (K : α → sProp 𝕄) : sProp 𝕄 :=
  wp frame (wpE (defs₀ (F := F)) Variants.none c none) Set.univ p K

variable (c : Dev nD) (Q : BufOf (F := F) c qM) (V₀ G : BufOf (F := F) c oM) (i : grid0.Coords)

/-- Waiting for the step's block brings it into its slot. -/
theorem waitNow_spec :
    iprop(inRole c Q (stp i) ∗ Owes c) ⊢ WP c (waitNow i) (fun _ => iprop(inFull c Q (Ring.sl 3 (stp i)) (Ring.bk 16 (stp i)) ∗ Owes c)) := by
  unfold WP inRole waitNow; rw [if_pos (stp_lt i)]; unfold inFly inFull
  iintro ⟨⟨%f, Hf, Hr⟩, %W, HW⟩
  sl_exec
  sl_step
  isplitr [HW]
  · isplitl [Hf]; · iexact Hf
    isplitl [Hf_src Hr]
    · iapply (qWhole_split c Q (Ring.sl 3 (stp i)) (Ring.bk 16 (stp i))).2
      isplitl [Hf_src]; · iexact Hf_src
      iexact Hr
    · iexists _
      isplitl [Hf_dst]; · iexact Hf_dst
      ipureintro; exact read_landed _ _ _
  · iexists _; iexact HW

/-- The first step starts the first three copies; no other step does anything here. -/
theorem startIn_spec :
    iprop(inRing c Q (stp i) ∗ Owes c) ⊢ WP c (startIn i) (fun _ => iprop(inRun c Q (stp i) ∗ Owes c)) := by
  unfold WP startIn startInK inRing
  by_cases h : atStart i
  · have e := (atStart_iff i).mp h
    rw [dif_pos h, if_pos e]
    unfold inRun inRole; rw [e, if_pos (by decide), if_pos (by decide), if_pos (by decide)]
    unfold inFree inFly
    iintro ⟨⟨⟨Hc0, %f0, Hs0, Hq0⟩, ⟨Hc1, %f1, Hs1, Hq1⟩, ⟨Hc2, %f2, Hs2, Hq2⟩⟩, %W, HW⟩
    ihave Hq0 := (qWhole_split c Q 0 0).1 $$ Hq0
    icases Hq0 with ⟨Hp0, Hr0⟩
    ihave Hq1 := (qWhole_split c Q 1 1).1 $$ Hq1
    icases Hq1 with ⟨Hp1, Hr1⟩
    ihave Hq2 := (qWhole_split c Q 2 2).1 $$ Hq2
    icases Hq2 with ⟨Hp2, Hr2⟩
    sl_exec
    sl_step
    isplitr [HW]
    · isplitl [Hc0 Hr0]
      · iexists _; isplitl [Hc0]; · iexact Hc0
        iexact Hr0
      isplitl [Hc1 Hr1]
      · iexists _; isplitl [Hc1]; · iexact Hc1
        iexact Hr1
      · iexists _; isplitl [Hc2]; · iexact Hc2
        iexact Hr2
    · iexists _; iexact HW
  · have e := fun e => h ((atStart_iff i).mpr e)
    rw [dif_neg h, if_neg e]
    iintro H
    sl_step
    iexact H

/-- Where a block is left, the copy of the block three steps ahead is started into the slot just read. -/
theorem sendIn_spec :
    iprop(inFree c Q (Ring.sl 3 (stp i)) ∗ Owes c) ⊢ WP c (sendIn i) (fun _ => iprop(inRole c Q (stp i + 3) ∗ Owes c)) := by
  have es : Ring.sl 3 (stp i + 3) = Ring.sl 3 (stp i) := Ring.sl_add _ _
  unfold WP sendIn sendInK inRole; rw [es]
  by_cases h : k0_cond5 i = 1#1
  · have e := (cond5_iff i).mp h
    rw [dif_pos h, if_pos e]
    unfold inFree inFly
    iintro ⟨⟨Hc, %f, Hs, Hq⟩, %W, HW⟩
    ihave Hq := (qWhole_split c Q (Ring.sl 3 (stp i)) (Ring.bk 16 (stp i + 3))).1 $$ Hq
    icases Hq with ⟨Hp, Hr⟩
    sl_exec (disch := first | sl_exact h)
    sl_step
    isplitr [HW]
    · iexists _; isplitl [Hc]; · iexact Hc
      iexact Hr
    · iexists _; iexact HW
  · have e := fun e => h ((cond5_iff i).mpr e)
    rw [dif_neg h, if_neg e]
    iintro H
    sl_step
    iexact H

/-- From the fifth step on, the slot to fill is waited for, and the block it carried has landed. -/
theorem waitPast_spec :
    iprop(outRole c V₀ G (stp i) ∗ oBehind c G (stp i) ∗ Owes c)
      ⊢ WP c (waitPast i) (fun _ => iprop(outFree c (Ring.sl 4 (stp i)) ∗ oBehind c G (stp i + 1) ∗ Owes c)) := by
  unfold WP waitPast waitPastK outRole oBehind
  by_cases h : k0_cond2 i = 1#1
  · have e := (cond2_iff i).mp h
    rw [dif_pos h, if_neg (by omega), Ring.behindSet_close 4 _ e (stp_lt i),
      Ring.bigSep_put (Ring.bk_not_mem_behindSet 4 _ e (stp_lt i))]
    unfold outFly outFree
    iintro ⟨⟨%g, Hf, %hg⟩, HB, %W, HW⟩
    sl_exec (disch := first | sl_exact h)
    sl_step
    isplitl [Hf Hf_src]
    · isplitl [Hf]; · iexact Hf
      iexists _; iexact Hf_src
    isplitr [HW]
    · isplitl [Hf_dst]
      · iapply oLanded_kept c V₀ G (Ring.sl 4 (stp i)) (Ring.bk 16 (stp i - 4)) g hg; iexact Hf_dst
      iexact HB
    · iexists _; iexact HW
  · have e : ¬ 4 ≤ stp i := fun e => h ((cond2_iff i).mpr e)
    rw [dif_neg h, if_pos (by omega), Ring.behindSet_boot 4 _ (by omega), Ring.behindSet_boot 4 _ (by omega)]
    iintro H
    sl_step
    iexact H

theorem oKept_eq (f : BufOf (F := F) c oM) (b : Fin 16) : oKept c f b ⊢ oHas c b f := by
  unfold oKept; exact .rfl

/-- The filled slot is sent to its block of the result. -/
theorem sendOut_spec :
    iprop(outFull c G (Ring.sl 4 (stp i)) (Ring.bk 16 (stp i)) ∗ oAhead c V₀ (stp i) ∗ Owes c)
      ⊢ WP c (sendOut i) (fun _ => iprop(outRole c V₀ G (stp i + 4) ∗ oAhead c V₀ (stp i + 1) ∗ Owes c)) := by
  have es : Ring.sl 4 (stp i + 4) = Ring.sl 4 (stp i) := Ring.sl_add _ _
  unfold WP sendOut outRole oAhead; rw [es, if_neg (by omega), Nat.add_sub_cancel, Ring.aheadSet_open _ (stp_lt i),
    Ring.bigSep_put (Ring.bk_not_mem_aheadSet_succ _ (stp_lt i))]
  unfold outFull outFly
  iintro ⟨⟨Hc, %g, Hs, %hg⟩, ⟨Hb, HA⟩, %W, HW⟩
  ihave Hb := oKept_eq c V₀ (Ring.bk 16 (stp i)) $$ Hb
  sl_exec
  sl_step
  isplitl [Hc]
  · iexists g; isplitl [Hc]; · iexact Hc
    ipureintro; exact hg
  isplitl [HA]; · iexact HA
  iexists _; iexact HW

end Cert.Kernel.Queue

end
-- ==== Proof.Kernel.Mix.lean ====
/-
  One chunk of 1024 rows of a step, as a pure computation: row by row the new keys where the row lies in the rows
  written and the old rows elsewhere, transposed. And the words the kernel computes on the way, as natural numbers.
-/
module

public import proofs.«01_k».proof.Proof.Kernel.Pieces
public import Idealize.ShloMosaic.Lib.Pointwise

@[expose] public section

set_option maxRecDepth 16384

noncomputable section

namespace Cert.Kernel.Queue

open Cert.Kernel.Gen
open Idealize.ShloMosaic Idealize.ShloMosaic.TcCoe

variable {F : FTy → Type} [FloatOps F]

/-! ## The words -/

/-- The first row written: the scalar, clamped so that 4096 rows fit. -/
def wpos (v2 : BitVec 32) : ℕ := (min 258048 (max 0 v2.toInt)).toNat

theorem wpos_le (v2 : BitVec 32) : wpos v2 ≤ 258048 := by unfold wpos; omega

theorem wpos_int (v2 : BitVec 32) : (wpos v2 : Int) = min 258048 (max 0 v2.toInt) := by unfold wpos; omega

theorem posW_int (v2 : BitVec 32) : Affine.IsInt (posW v2) (wpos v2 : Int) :=
  Affine.minsi (Affine.ofNat 258048 (e := 258048) (by omega)) (Affine.maxsi (Affine.ofNat 0 (e := 0) (by omega)) (Affine.word v2) rfl) (wpos_int v2)

theorem posEnd_int (v2 : BitVec 32) : Affine.IsInt (Scalar.addi (posW v2) 4096#32) ((wpos v2 : Int) + 4096) := by
  have := wpos_le v2
  exact Affine.addi (posW_int v2) (Affine.ofNat 4096 (e := 4096) (by omega)) (by omega)

theorem rowW_int (i : grid0.Coords) : Affine.IsInt (rowW i) (16384 * (stp i : Int)) := by
  have := stp_lt i
  exact Affine.muli (Affine.ofNat (stp i) (e := (stp i : Int)) (by omega)) (Affine.ofNat 16384 (e := 16384) (by omega)) (by omega)

/-- The step's rows and the rows written meet. -/
abbrev Over (i : grid0.Coords) (v2 : BitVec 32) : Prop := wpos v2 < 16384 * stp i + 16384 ∧ 16384 * stp i < wpos v2 + 4096

theorem rowEnd_int (i : grid0.Coords) : Affine.IsInt (Scalar.addi (rowW i) 16384#32) (16384 * (stp i : Int) + 16384) := by
  have := stp_lt i
  exact Affine.addi (rowW_int i) (Affine.ofNat 16384 (e := 16384) (by omega)) (by omega)

theorem over_holds {i : grid0.Coords} {v2 : BitVec 32} (h : Over i v2) :
    Affine.Holds (Scalar.andi (Scalar.cmpi .sgt (Scalar.addi (rowW i) 16384#32) (posW v2)) (Scalar.cmpi .slt (rowW i) (Scalar.addi (posW v2) 4096#32))) :=
  Affine.andi_holds (Affine.sgt_holds (rowEnd_int i) (posW_int v2) (by omega)) (Affine.slt_holds (rowW_int i) (posEnd_int v2) (by omega))
theorem over_fails {i : grid0.Coords} {v2 : BitVec 32} (h : ¬ Over i v2) :
    Affine.Fails (Scalar.andi (Scalar.cmpi .sgt (Scalar.addi (rowW i) 16384#32) (posW v2)) (Scalar.cmpi .slt (rowW i) (Scalar.addi (posW v2) 4096#32))) := by
  by_cases h1 : wpos v2 < 16384 * stp i + 16384
  · exact Affine.andi_fails_right trivial (Affine.slt_fails (rowW_int i) (posEnd_int v2) (by omega))
  · exact Affine.andi_fails_left (Affine.sgt_fails (rowEnd_int i) (posW_int v2) (by omega)) trivial

/-- The kernel takes the chunked way exactly when the rows meet, -/
theorem cond3_iff (i : grid0.Coords) (v2 : BitVec 32) : k0_cond3 i v2 = 1#1 ↔ Over i v2 := by
  by_cases h : Over i v2
  · exact ⟨fun _ => h, fun _ => Affine.ne_holds (Affine.extui_holds (over_holds h) rfl) (Affine.ofNat 0 (e := 0) (by omega)) (by decide)⟩
  · exact ⟨fun h' => absurd h' (Affine.ne_fails (Affine.extui_fails (over_fails h) rfl) (Affine.ofNat 0 (e := 0) (by omega)) rfl), fun h' => absurd h' h⟩

/-- and the whole transpose exactly when they do not. -/
theorem notOver_iff (i : grid0.Coords) (v2 : BitVec 32) : notOver i v2 = 1#1 ↔ ¬ Over i v2 := by
  by_cases h : Over i v2
  · exact ⟨fun h' => absurd h' (Affine.ne_fails (Affine.extui_fails (Affine.xori_hh (over_holds h) Affine.holds_one) rfl) (Affine.ofNat 0 (e := 0) (by omega)) rfl), fun h' => absurd h h'⟩
  · exact ⟨fun _ => h, fun _ => Affine.ne_holds (Affine.extui_holds (Affine.xori_fh (over_fails h) Affine.holds_one) rfl) (Affine.ofNat 0 (e := 0) (by omega)) (by decide)⟩

/-- Where chunk `r` reads the padded keys. -/
theorem off7_eq (i : grid0.Coords) (v2 : BitVec 32) (r : Fin 16) :
    k0_off7 i v2 (BitVec.ofNat 32 (1024 * r.val))
      = ![(min 4096 (max (-1024) (16384 * (stp i : Int) + 1024 * (r.val : Int) - wpos v2)) + 1024).toNat, 0] := by
  have := stp_lt i
  have := wpos_le v2
  have := r.isLt
  have e1 : Affine.IsInt (Scalar.addi (rowW i) (BitVec.ofNat 32 (1024 * r.val))) (16384 * (stp i : Int) + 1024 * (r.val : Int)) :=
    Affine.addi (rowW_int i) (Affine.ofNat (1024 * r.val) (e := 1024 * (r.val : Int)) (by omega)) (by omega)
  have e2 : Affine.IsInt (Scalar.subi (Scalar.addi (rowW i) (BitVec.ofNat 32 (1024 * r.val))) (posW v2)) (16384 * (stp i : Int) + 1024 * (r.val : Int) - wpos v2) :=
    Affine.subi e1 (posW_int v2) (by omega)
  have e3 := Affine.maxsi (e := max (-1024) (16384 * (stp i : Int) + 1024 * (r.val : Int) - wpos v2)) (Affine.ofNat_neg 4294966272 (e := -1024) (by omega)) e2 rfl
  have e4 := Affine.minsi (e := min 4096 (max (-1024) (16384 * (stp i : Int) + 1024 * (r.val : Int) - wpos v2))) (Affine.ofNat 4096 (e := 4096) (by omega)) e3 rfl
  have e5 := Affine.addi (e := min 4096 (max (-1024) (16384 * (stp i : Int) + 1024 * (r.val : Int) - wpos v2)) + 1024) e4 (Affine.ofNat 1024 (e := 1024) (by omega)) (by omega)
  exact Affine.vec_cons (Affine.indexCast e5) (by omega) rfl

/-! ## The chunk -/

/-- The transposed chunk: rows of `kv` where the row number `lo + a` is one of the 4096 from `p` on, else rows of `iv`. -/
def mixPay (p lo : BitVec 32) (kv : Vec F S1024x128 .f32) (iv : Vec F S1x1024x128 .f32) : FVec F S1x128x1024 .f32 :=
  let rows : IVec S1024x1 32 := addi (broadcast S1024x1 lo) (iota .tc S1024x1 32 [0] iota_S1024x1_d0_w32)
  let mask : IVec S1024x1 1 := andi (cmpi .sge rows (broadcast S1024x1 p)) (cmpi .slt rows (broadcast S1024x1 (Scalar.addi p 4096#32)))
  shapeCast S1x128x1024
    (transpose S128x1024 [1, 0]
      (select (broadcastTo S1024x128 (shapeCast S1024x1 mask shapeCasts_S1024x1_S1024x1) broadcasts_S1024x1_S1024x128)
        (shapeCast S1024x128 kv shapeCasts_S1024x128_S1024x128) (shapeCast S1024x128 iv shapeCasts_S1x1024x128_S1024x128))
      transposes_S1024x128_p1_0_S128x1024)
    shapeCasts_S128x1024_S1x128x1024

theorem mixPay_scalar (p lo : BitVec 32) (kv : Vec F S1024x128 .f32) (iv : Vec F S1x1024x128 .f32) (d : Fin 128) (a : Fin 1024) :
    mixPay p lo kv iv (ix3 (0 : Fin 1) d a)
      = Scalar.select (IntOp.andi (IntOp.cmpi .sge (IntOp.addi lo (BitVec.ofNat 32 a.val)) p) (IntOp.cmpi .slt (IntOp.addi lo (BitVec.ofNat 32 a.val)) (Scalar.addi p 4096#32)))
          (kv (ix2 a d)) (iv (ix3 (0 : Fin 1) a d)) := by
  pointwise [mixPay]

/-- The chunk at row `a` of chunk `r` and coordinate `d`. -/
theorem mixPay_at (i : grid0.Coords) (v2 : BitVec 32) (r : Fin 16) (kv : Vec F S1024x128 .f32) (iv : Vec F S1x1024x128 .f32) (d : Fin 128) (a : Fin 1024) :
    mixPay (posW v2) (Scalar.addi (rowW i) (BitVec.ofNat 32 (1024 * r.val))) kv iv (ix3 (0 : Fin 1) d a)
      = if wpos v2 ≤ 16384 * stp i + 1024 * r.val + a.val ∧ 16384 * stp i + 1024 * r.val + a.val < wpos v2 + 4096 then kv (ix2 a d) else iv (ix3 (0 : Fin 1) a d) := by
  rw [mixPay_scalar]
  have := stp_lt i
  have := r.isLt
  have := a.isLt
  have e1 : Affine.IsInt (Scalar.addi (rowW i) (BitVec.ofNat 32 (1024 * r.val))) (16384 * (stp i : Int) + 1024 * (r.val : Int)) :=
    Affine.addi (rowW_int i) (Affine.ofNat (1024 * r.val) (e := 1024 * (r.val : Int)) (by omega)) (by omega)
  have e2 : Affine.IsInt (Scalar.addi (Scalar.addi (rowW i) (BitVec.ofNat 32 (1024 * r.val))) (BitVec.ofNat 32 a.val)) (16384 * (stp i : Int) + 1024 * (r.val : Int) + a.val) :=
    Affine.addi e1 (Affine.ofNat a.val (e := (a.val : Int)) (by omega)) (by omega)
  by_cases h : wpos v2 ≤ 16384 * stp i + 1024 * r.val + a.val ∧ 16384 * stp i + 1024 * r.val + a.val < wpos v2 + 4096
  · rw [if_pos h]
    exact if_pos (Affine.andi_holds (Affine.sge_holds e2 (posW_int v2) (by omega)) (Affine.slt_holds e2 (posEnd_int v2) (by omega)))
  · rw [if_neg h]
    refine if_neg ?_
    by_cases h1 : wpos v2 ≤ 16384 * stp i + 1024 * r.val + a.val
    · exact Affine.andi_fails_right trivial (Affine.slt_fails e2 (posEnd_int v2) (by omega))
    · exact Affine.andi_fails_left (Affine.sge_fails e2 (posW_int v2) (by omega)) trivial

/-- The whole transpose of a step at row `a` and coordinate `d`. -/
theorem pay32_at (iv : Vec F S1x16384x128 .f32) (d : Fin 128) (a : Fin 16384) :
    k0_pay32 iv (ix3 (0 : Fin 1) d a) = iv (ix3 (0 : Fin 1) a d) := by
  pointwise [k0_pay32]

/-! ## The result -/

/-- The transposed queue once the rows are written, from the padded keys `K` and the queue `Q`. -/
def Gout (p : ℕ) (K : Vec F S6144x128 .f32) (Q : Vec F S262144x128 .f32) : Vec F S128x262144 .f32 := fun y =>
  if h : p ≤ (y 1).val ∧ (y 1).val < p + 4096 then
    K (ix2 (⟨1024 + ((y 1).val - p), by have := h.1; have := h.2; omega⟩ : Fin 6144) (y 0))
  else Q (ix2 (y 1) (y 0))

/-- A column among the rows written holds a row of the padded keys, -/
theorem Gout_in (p : ℕ) (K : Vec F S6144x128 .f32) (Q : Vec F S262144x128 .f32) (d : Fin 128) (n : Fin 262144) (h : p ≤ n.val ∧ n.val < p + 4096)
    (k : Fin 6144) (hk : k.val = 1024 + (n.val - p)) : Gout p K Q (ix2 d n) = K (ix2 k d) := by
  have e : (⟨1024 + (n.val - p), by omega⟩ : Fin 6144) = k := Fin.ext hk.symm
  exact (dif_pos h).trans (congrArg (fun x : Fin 6144 => K (ix2 x d)) e)

/-- any other one its row of the queue. -/
theorem Gout_out (p : ℕ) (K : Vec F S6144x128 .f32) (Q : Vec F S262144x128 .f32) (d : Fin 128) (n : Fin 262144) (h : ¬ (p ≤ n.val ∧ n.val < p + 4096)) :
    Gout p K Q (ix2 d n) = Q (ix2 n d) := dif_neg h

end Cert.Kernel.Queue

end
-- ==== Proof.Kernel.Reads.lean ====
/-
  What the slots, the blocks and the loads and stores between them read, element by element.
-/
module

public import proofs.«01_k».proof.Proof.Kernel.Steps
public import proofs.«01_k».proof.Proof.Kernel.Mix
public import Idealize.ShloMosaic.Lib.WritesUnit

@[expose] public section

set_option maxRecDepth 16384

noncomputable section

namespace Cert.Kernel.Queue

open Cert.Kernel.Gen
open Idealize.ShloMosaic Idealize.ShloMosaic.TcCoe Idealize.ShloMosaic.Tactic

variable {F : FTy → Type} [FloatOps F]

/-- A slot without its unit axis. -/
theorem cast_in (w : Vec F S1x16384x128 .f32) (a : Fin 16384) (d : Fin 128) :
    shapeCast S16384x128 w shapeCasts_S1x16384x128_S16384x128 (ix2 a d) = w (ix3 (0 : Fin 1) a d) := by
  pointwise
@[inherit_doc cast_in] theorem cast_out (w : Vec F S1x128x16384 .f32) (d : Fin 128) (a : Fin 16384) :
    shapeCast S128x16384 w shapeCasts_S1x128x16384_S128x16384 (ix2 d a) = w (ix3 (0 : Fin 1) d a) := by
  pointwise

/-- Row `a`, coordinate `d` of input slot `s` is entry `(s, a, d)` of the scratch. -/
theorem inSlot_read (s : Fin 3) (f : inM.view.ty.Contents (Elt F)) (a : Fin 16384) (d : Fin 128) :
    (inSlot s).view.read (Elt F) f (ix2 a d) = inM.view.read (Elt F) f (ix3 s a d) := by
  have e := cast_in ((inM.access (Rect.unit (s := S3x16384x128) ![s.val, 0, 0] S1x16384x128.size (inSlot_inb s))).read (Elt F) f) a d
  refine Eq.trans (show _ = _ from rfl) (e.trans ?_)
  exact congrArg (inM.view.read (Elt F) f) (Shape.idx3_ext (by show s.val + 1 * 0 = s.val; omega) (by show 0 + 1 * a.val = a.val; omega) (by show 0 + 1 * d.val = d.val; omega))

/-- Coordinate `d`, column `a` of output slot `s` is entry `(s, d, a)` of the scratch. -/
theorem outSlot_read (s : Fin 4) (g : outM.view.ty.Contents (Elt F)) (d : Fin 128) (a : Fin 16384) :
    (outSlot s).view.read (Elt F) g (ix2 d a) = outM.view.read (Elt F) g (ix3 s d a) := by
  have e := cast_out ((outM.access (Rect.unit (s := S4x128x16384) ![s.val, 0, 0] S1x128x16384.size (outSlot_inb s))).read (Elt F) g) d a
  refine Eq.trans (show _ = _ from rfl) (e.trans ?_)
  exact congrArg (outM.view.read (Elt F) g) (Shape.idx3_ext (by show s.val + 1 * 0 = s.val; omega) (by show 0 + 1 * d.val = d.val; omega) (by show 0 + 1 * a.val = a.val; omega))

/-- After a chunk of columns of a slot is written, the slot's columns in the chunk read what was written, -/
theorem chunk_in {o : Fin 3 → ℕ} (s : Fin 4) (r : ℕ) (ho : o = ![s.val, 0, 1024 * r]) (inb : ∀ a, o a + S1x128x1024.size a ≤ S4x128x16384.size a)
    (g : outM.view.ty.Contents (Elt F)) (w : Vec F S1x128x1024 .f32) (d : Fin 128) (a : Fin 16384) (b : Fin 1024) (h : a.val = 1024 * r + b.val) :
    outM.view.read (Elt F) (View.write (Elt F) (outM.access (Rect.unit (s := S4x128x16384) o S1x128x1024.size inb)) g w Finset.univ) (ix3 s d a)
      = w (ix3 (0 : Fin 1) d b) :=
  View.read_writes_cons_unit_of_mem outM.view g inb w [] (ix3 s d a) (ix3 (0 : Fin 1) d b) ho fun x => by
    match x with
    | ⟨0, _⟩ => show s.val = s.val + 0; omega
    | ⟨1, _⟩ => show d.val = 0 + d.val; omega
    | ⟨2, _⟩ => exact h

/-- and its other columns what they read before. -/
theorem chunk_out {o : Fin 3 → ℕ} (s : Fin 4) (r : ℕ) (ho : o = ![s.val, 0, 1024 * r]) (inb : ∀ a, o a + S1x128x1024.size a ≤ S4x128x16384.size a)
    (g : outM.view.ty.Contents (Elt F)) (w : Vec F S1x128x1024 .f32) (d : Fin 128) (a : Fin 16384) (h : a.val < 1024 * r) :
    outM.view.read (Elt F) (View.write (Elt F) (outM.access (Rect.unit (s := S4x128x16384) o S1x128x1024.size inb)) g w Finset.univ) (ix3 s d a)
      = outM.view.read (Elt F) g (ix3 s d a) :=
  View.read_writes_cons_unit_of_not_mem outM.view g inb w [] (ix3 s d a) ho 2 (Or.inl h)

/-- After the whole slot is written it reads what was written. -/
theorem slot_in {o : Fin 3 → ℕ} (s : Fin 4) (ho : o = ![s.val, 0, 0]) (inb : ∀ a, o a + S1x128x16384.size a ≤ S4x128x16384.size a)
    (g : outM.view.ty.Contents (Elt F)) (w : Vec F S1x128x16384 .f32) (d : Fin 128) (a : Fin 16384) :
    outM.view.read (Elt F) (View.write (Elt F) (outM.access (Rect.unit (s := S4x128x16384) o S1x128x16384.size inb)) g w Finset.univ) (ix3 s d a)
      = w (ix3 (0 : Fin 1) d a) :=
  View.read_writes_cons_unit_of_mem outM.view g inb w [] (ix3 s d a) (ix3 (0 : Fin 1) d a) ho fun x => by
    match x with
    | ⟨0, _⟩ => show s.val = s.val + 0; omega
    | ⟨1, _⟩ => show d.val = 0 + d.val; omega
    | ⟨2, _⟩ => show a.val = 0 + a.val; omega

/-- A load of a chunk of rows of an input slot. -/
theorem load_chunk {o : Fin 3 → ℕ} (s : Fin 3) (r : ℕ) (ho : o = ![s.val, 1024 * r, 0]) (inb : ∀ a, o a + S1x1024x128.size a ≤ S3x16384x128.size a)
    (f : inM.view.ty.Contents (Elt F)) (a : Fin 16384) (b : Fin 1024) (d : Fin 128) (h : a.val = 1024 * r + b.val) :
    inM.view.readAt (Elt F) (Rect.unit (s := S3x16384x128) o S1x1024x128.size inb).toLoadRect f (ix3 (0 : Fin 1) b d) = inM.view.read (Elt F) f (ix3 s a d) := by
  subst ho
  exact congrArg (inM.view.read (Elt F) f) (Shape.idx3_ext (by show s.val + 1 * 0 = s.val; omega) (by show 1024 * r + 1 * b.val = a.val; omega) (by show 0 + 1 * d.val = d.val; omega))

/-- A load of a whole input slot. -/
theorem load_slot {o : Fin 3 → ℕ} (s : Fin 3) (ho : o = ![s.val, 0, 0]) (inb : ∀ a, o a + S1x16384x128.size a ≤ S3x16384x128.size a)
    (f : inM.view.ty.Contents (Elt F)) (a : Fin 16384) (d : Fin 128) :
    inM.view.readAt (Elt F) (Rect.unit (s := S3x16384x128) o S1x16384x128.size inb).toLoadRect f (ix3 (0 : Fin 1) a d) = inM.view.read (Elt F) f (ix3 s a d) := by
  subst ho
  exact congrArg (inM.view.read (Elt F) f) (Shape.idx3_ext (by show s.val + 1 * 0 = s.val; omega) (by show 0 + 1 * a.val = a.val; omega) (by show 0 + 1 * d.val = d.val; omega))

/-- A load of 1024 rows of the padded keys from row `n`. -/
theorem load_keys (arg2 : Memref sig .tc .vmem S6144x128 .f32) {o : Fin 2 → ℕ} (n : ℕ) (ho : o = ![n, 0]) (inb : ∀ a, o a + S1024x128.size a ≤ S6144x128.size a)
    (f : arg2.view.ty.Contents (Elt F)) (a : Fin 6144) (b : Fin 1024) (d : Fin 128) (h : a.val = n + b.val) :
    arg2.view.readAt (Elt F) (Rect.unit (s := S6144x128) o S1024x128.size inb).toLoadRect f (ix2 b d) = arg2.view.read (Elt F) f (ix2 a d) := by
  subst ho
  refine congrArg (arg2.view.read (Elt F) f) (funext fun x => Fin.ext ?_)
  match x with
  | ⟨0, _⟩ => show n + 1 * b.val = a.val; omega
  | ⟨1, _⟩ => show 0 + 1 * d.val = d.val; omega

/-- Row `a` of block `b` of the queue is row `16384 b + a`. -/
theorem qBlk_read (b : Fin 16) (Q : qM.view.ty.Contents (Elt F)) (a : Fin 16384) (d : Fin 128) (n : Fin 262144) (h : n.val = 16384 * b.val + a.val) :
    (qBlk b).view.read (Elt F) Q (ix2 a d) = qM.view.read (Elt F) Q (ix2 n d) := by
  refine congrArg (qM.view.read (Elt F) Q) (funext fun x => Fin.ext ?_)
  match x with
  | ⟨0, _⟩ => show 16384 * b.val + 1 * a.val = n.val; omega
  | ⟨1, _⟩ => show 0 + 1 * d.val = d.val; omega

/-- Column `a` of block `b` of the result is column `16384 b + a`. -/
theorem oBlk_read (b : Fin 16) (G : oM.view.ty.Contents (Elt F)) (d : Fin 128) (a : Fin 16384) (n : Fin 262144) (h : n.val = 16384 * b.val + a.val) :
    (oBlk b).view.read (Elt F) G (ix2 d a) = oM.view.read (Elt F) G (ix2 d n) := by
  refine congrArg (oM.view.read (Elt F) G) (funext fun x => Fin.ext ?_)
  match x with
  | ⟨0, _⟩ => show 0 + 1 * d.val = d.val; omega
  | ⟨1, _⟩ => show 16384 * b.val + 1 * a.val = n.val; omega

/-! ## The slot chunk by chunk -/

section Chunks

variable (i : grid0.Coords) (v2 : BitVec 32) (arg2 : Memref sig .tc .vmem S6144x128 .f32)
variable (K : arg2.view.ty.Contents (Elt F)) (Q : qM.view.ty.Contents (Elt F)) (G : oM.view.ty.Contents (Elt F))
variable (f : inM.view.ty.Contents (Elt F))

theorem row_lt (a : Fin 16384) : 16384 * stp i + a.val < 262144 := by have := stp_lt i; have := a.isLt; omega

/-- The step's output slot has its first `n` columns right: they read as the columns of the step's block of `G`. -/
def Upto (n : ℕ) (g : outM.view.ty.Contents (Elt F)) : Prop :=
  ∀ (d : Fin 128) (a : Fin 16384), a.val < n →
    outM.view.read (Elt F) g (ix3 (Ring.sl 4 (stp i)) d a) = oM.view.read (Elt F) G (ix2 d (⟨16384 * stp i + a.val, row_lt i a⟩ : Fin 262144))

theorem upto_zero (g : outM.view.ty.Contents (Elt F)) : Upto i G 0 g := fun _ a h => absurd h (Nat.not_lt_zero _)

/-- A slot all of whose columns are right reads as the step's block of `G`. -/
theorem upto_end {g : outM.view.ty.Contents (Elt F)} (h : Upto i G 16384 g) :
    (outSlot (Ring.sl 4 (stp i))).view.read (Elt F) g = (oBlk (Ring.bk 16 (stp i))).view.read (Elt F) G := by
  funext x
  obtain ⟨d, a, rfl⟩ : ∃ (d : Fin 128) (a : Fin 16384), x = ix2 d a := ⟨x 0, x 1, eq_ix2 x⟩
  rw [outSlot_read, oBlk_read _ G d a ⟨16384 * stp i + a.val, row_lt i a⟩ (by rw [Ring.bk_val (stp_lt i)])]
  exact h d a a.isLt

variable (hf : (inSlot (Ring.sl 3 (stp i))).view.read (Elt F) f = (qBlk (Ring.bk 16 (stp i))).view.read (Elt F) Q)
variable (hG : oM.view.read (Elt F) G = Gout (wpos v2) (arg2.view.read (Elt F) K) (qM.view.read (Elt F) Q))
include hf

/-- The step's rows of the queue, in the slot they were brought to. -/
theorem rows_read (a : Fin 16384) (d : Fin 128) :
    inM.view.read (Elt F) f (ix3 (Ring.sl 3 (stp i)) a d) = qM.view.read (Elt F) Q (ix2 (⟨16384 * stp i + a.val, row_lt i a⟩ : Fin 262144) d) := by
  rw [← inSlot_read, hf]
  exact qBlk_read _ Q a d _ (by rw [Ring.bk_val (stp_lt i)])

include hG

/-- One more chunk is right after the chunk is written. -/
theorem upto_step (r : Fin 16) {o oi : Fin 3 → ℕ} (ho : o = ![(Ring.sl 4 (stp i)).val, 0, 1024 * r.val]) (inb : ∀ a, o a + S1x128x1024.size a ≤ S4x128x16384.size a)
    (hoi : oi = ![(Ring.sl 3 (stp i)).val, 1024 * r.val, 0]) (inbi : ∀ a, oi a + S1x1024x128.size a ≤ S3x16384x128.size a)
    (inbk : ∀ a, k0_off7 i v2 (BitVec.ofNat 32 (1024 * r.val)) a + S1024x128.size a ≤ S6144x128.size a)
    (g : outM.view.ty.Contents (Elt F)) (hg : Upto i G (1024 * r.val) g) :
    Upto i G (1024 * (r.val + 1)) (View.write (Elt F) (outM.access (Rect.unit (s := S4x128x16384) o S1x128x1024.size inb)) g
      (mixPay (posW v2) (Scalar.addi (rowW i) (BitVec.ofNat 32 (1024 * r.val)))
        (arg2.view.readAt (Elt F) (Rect.unit (s := S6144x128) (k0_off7 i v2 (BitVec.ofNat 32 (1024 * r.val))) S1024x128.size inbk).toLoadRect K)
        (inM.view.readAt (Elt F) (Rect.unit (s := S3x16384x128) oi S1x1024x128.size inbi).toLoadRect f)) Finset.univ) := by
  intro d a ha
  by_cases h : a.val < 1024 * r.val
  · rw [chunk_out _ r.val ho inb _ _ d a h]; exact hg d a h
  · have hb : a.val - 1024 * r.val < 1024 := by omega
    have eb : a.val = 1024 * r.val + (⟨a.val - 1024 * r.val, hb⟩ : Fin 1024).val := by show a.val = _ + (a.val - _); omega
    rw [chunk_in _ r.val ho inb _ _ d a ⟨a.val - 1024 * r.val, hb⟩ eb, mixPay_at, hG]
    have := wpos_le v2
    have := stp_lt i
    have e : 16384 * stp i + 1024 * r.val + (a.val - 1024 * r.val) = 16384 * stp i + a.val := by omega
    rw [show 16384 * stp i + 1024 * r.val + (⟨a.val - 1024 * r.val, hb⟩ : Fin 1024).val = 16384 * stp i + a.val from e]
    by_cases hm : wpos v2 ≤ 16384 * stp i + a.val ∧ 16384 * stp i + a.val < wpos v2 + 4096
    · rw [if_pos hm]
      refine (load_keys arg2 _ (off7_eq i v2 r) inbk K ⟨1024 + (16384 * stp i + a.val - wpos v2), by omega⟩ _ d ?_).trans (Gout_in _ _ _ d _ hm _ rfl).symm
      show 1024 + (16384 * stp i + a.val - wpos v2) = _ + (a.val - 1024 * r.val)
      omega
    · rw [if_neg hm, load_chunk _ r.val hoi inbi f a _ d eb, rows_read i Q f hf]
      exact (Gout_out _ _ _ d _ hm).symm

/-- The whole slot is right after a whole transpose, where the step's rows do not meet the rows written. -/
theorem upto_plain (hn : ¬ Over i v2) {o oi : Fin 3 → ℕ} (ho : o = ![(Ring.sl 4 (stp i)).val, 0, 0]) (inb : ∀ a, o a + S1x128x16384.size a ≤ S4x128x16384.size a)
    (hoi : oi = ![(Ring.sl 3 (stp i)).val, 0, 0]) (inbi : ∀ a, oi a + S1x16384x128.size a ≤ S3x16384x128.size a)
    (g : outM.view.ty.Contents (Elt F)) :
    Upto i G 16384 (View.write (Elt F) (outM.access (Rect.unit (s := S4x128x16384) o S1x128x16384.size inb)) g
      (k0_pay32 (inM.view.readAt (Elt F) (Rect.unit (s := S3x16384x128) oi S1x16384x128.size inbi).toLoadRect f)) Finset.univ) := by
  intro d a ha
  rw [slot_in _ ho inb _ _ d a, pay32_at, load_slot _ hoi inbi f a d, rows_read i Q f hf, hG]
  refine (Gout_out _ _ _ d _ ?_).symm
  show ¬ (wpos v2 ≤ 16384 * stp i + a.val ∧ 16384 * stp i + a.val < wpos v2 + 4096)
  omega

end Chunks

end Cert.Kernel.Queue

end
-- ==== Proof.Kernel.Fill.lean ====
/-
  Filling the output slot: the run of the two ways, and what the slot then holds, as the list of the boxes written.
-/
module

public import proofs.«01_k».proof.Proof.Kernel.Steps
public import proofs.«01_k».proof.Proof.Kernel.Reads

@[expose] public section

set_option maxRecDepth 16384

noncomputable section

namespace Cert.Kernel.Queue

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The boxes of the two slots, at offsets that name the slot -/

instance (priority := high) slotOff8 (i : grid0.Coords) : ClosedOff (k0_off8 i) := ⟨![(Ring.sl 3 (stp i)).val, 0, 0], k0_off8_eq i⟩
instance (priority := high) slotOff9 (i : grid0.Coords) : ClosedOff (k0_off9 i) := ⟨![(Ring.sl 4 (stp i)).val, 0, 0], k0_off9_eq i⟩
instance (priority := high) slotOff10 (i : grid0.Coords) : ClosedOff (k0_off10 i) := ⟨![(Ring.sl 3 (stp i)).val, 1024, 0], k0_off10_eq i⟩
instance (priority := high) slotOff11 (i : grid0.Coords) : ClosedOff (k0_off11 i) := ⟨![(Ring.sl 4 (stp i)).val, 0, 1024], k0_off11_eq i⟩
instance (priority := high) slotOff12 (i : grid0.Coords) : ClosedOff (k0_off12 i) := ⟨![(Ring.sl 3 (stp i)).val, 2048, 0], k0_off12_eq i⟩
instance (priority := high) slotOff13 (i : grid0.Coords) : ClosedOff (k0_off13 i) := ⟨![(Ring.sl 4 (stp i)).val, 0, 2048], k0_off13_eq i⟩
instance (priority := high) slotOff14 (i : grid0.Coords) : ClosedOff (k0_off14 i) := ⟨![(Ring.sl 3 (stp i)).val, 3072, 0], k0_off14_eq i⟩
instance (priority := high) slotOff15 (i : grid0.Coords) : ClosedOff (k0_off15 i) := ⟨![(Ring.sl 4 (stp i)).val, 0, 3072], k0_off15_eq i⟩
instance (priority := high) slotOff16 (i : grid0.Coords) : ClosedOff (k0_off16 i) := ⟨![(Ring.sl 3 (stp i)).val, 4096, 0], k0_off16_eq i⟩
instance (priority := high) slotOff17 (i : grid0.Coords) : ClosedOff (k0_off17 i) := ⟨![(Ring.sl 4 (stp i)).val, 0, 4096], k0_off17_eq i⟩
instance (priority := high) slotOff18 (i : grid0.Coords) : ClosedOff (k0_off18 i) := ⟨![(Ring.sl 3 (stp i)).val, 5120, 0], k0_off18_eq i⟩
instance (priority := high) slotOff19 (i : grid0.Coords) : ClosedOff (k0_off19 i) := ⟨![(Ring.sl 4 (stp i)).val, 0, 5120], k0_off19_eq i⟩
instance (priority := high) slotOff20 (i : grid0.Coords) : ClosedOff (k0_off20 i) := ⟨![(Ring.sl 3 (stp i)).val, 6144, 0], k0_off20_eq i⟩
instance (priority := high) slotOff21 (i : grid0.Coords) : ClosedOff (k0_off21 i) := ⟨![(Ring.sl 4 (stp i)).val, 0, 6144], k0_off21_eq i⟩
instance (priority := high) slotOff22 (i : grid0.Coords) : ClosedOff (k0_off22 i) := ⟨![(Ring.sl 3 (stp i)).val, 7168, 0], k0_off22_eq i⟩
instance (priority := high) slotOff23 (i : grid0.Coords) : ClosedOff (k0_off23 i) := ⟨![(Ring.sl 4 (stp i)).val, 0, 7168], k0_off23_eq i⟩
instance (priority := high) slotOff24 (i : grid0.Coords) : ClosedOff (k0_off24 i) := ⟨![(Ring.sl 3 (stp i)).val, 8192, 0], k0_off24_eq i⟩
instance (priority := high) slotOff25 (i : grid0.Coords) : ClosedOff (k0_off25 i) := ⟨![(Ring.sl 4 (stp i)).val, 0, 8192], k0_off25_eq i⟩
instance (priority := high) slotOff26 (i : grid0.Coords) : ClosedOff (k0_off26 i) := ⟨![(Ring.sl 3 (stp i)).val, 9216, 0], k0_off26_eq i⟩
instance (priority := high) slotOff27 (i : grid0.Coords) : ClosedOff (k0_off27 i) := ⟨![(Ring.sl 4 (stp i)).val, 0, 9216], k0_off27_eq i⟩
instance (priority := high) slotOff28 (i : grid0.Coords) : ClosedOff (k0_off28 i) := ⟨![(Ring.sl 3 (stp i)).val, 10240, 0], k0_off28_eq i⟩
instance (priority := high) slotOff29 (i : grid0.Coords) : ClosedOff (k0_off29 i) := ⟨![(Ring.sl 4 (stp i)).val, 0, 10240], k0_off29_eq i⟩
instance (priority := high) slotOff30 (i : grid0.Coords) : ClosedOff (k0_off30 i) := ⟨![(Ring.sl 3 (stp i)).val, 11264, 0], k0_off30_eq i⟩
instance (priority := high) slotOff31 (i : grid0.Coords) : ClosedOff (k0_off31 i) := ⟨![(Ring.sl 4 (stp i)).val, 0, 11264], k0_off31_eq i⟩
instance (priority := high) slotOff32 (i : grid0.Coords) : ClosedOff (k0_off32 i) := ⟨![(Ring.sl 3 (stp i)).val, 12288, 0], k0_off32_eq i⟩
instance (priority := high) slotOff33 (i : grid0.Coords) : ClosedOff (k0_off33 i) := ⟨![(Ring.sl 4 (stp i)).val, 0, 12288], k0_off33_eq i⟩
instance (priority := high) slotOff34 (i : grid0.Coords) : ClosedOff (k0_off34 i) := ⟨![(Ring.sl 3 (stp i)).val, 13312, 0], k0_off34_eq i⟩
instance (priority := high) slotOff35 (i : grid0.Coords) : ClosedOff (k0_off35 i) := ⟨![(Ring.sl 4 (stp i)).val, 0, 13312], k0_off35_eq i⟩
instance (priority := high) slotOff36 (i : grid0.Coords) : ClosedOff (k0_off36 i) := ⟨![(Ring.sl 3 (stp i)).val, 14336, 0], k0_off36_eq i⟩
instance (priority := high) slotOff37 (i : grid0.Coords) : ClosedOff (k0_off37 i) := ⟨![(Ring.sl 4 (stp i)).val, 0, 14336], k0_off37_eq i⟩
instance (priority := high) slotOff38 (i : grid0.Coords) : ClosedOff (k0_off38 i) := ⟨![(Ring.sl 3 (stp i)).val, 15360, 0], k0_off38_eq i⟩
instance (priority := high) slotOff39 (i : grid0.Coords) : ClosedOff (k0_off39 i) := ⟨![(Ring.sl 4 (stp i)).val, 0, 15360], k0_off39_eq i⟩
instance (priority := high) slotOff40 (i : grid0.Coords) : ClosedOff (k0_off40 i) := ⟨![(Ring.sl 3 (stp i)).val, 0, 0], k0_off40_eq i⟩
instance (priority := high) slotOff41 (i : grid0.Coords) : ClosedOff (k0_off41 i) := ⟨![(Ring.sl 4 (stp i)).val, 0, 0], k0_off41_eq i⟩

variable (c : Dev nD) (i : grid0.Coords) (Q : BufOf (F := F) c qM) (G : BufOf (F := F) c oM)
variable (arg2 : Memref sig .tc .vmem S6144x128 .f32) (harg2 : arg2.IsWhole) (arg5 : Memref sig .tc .vmem S256x128 .f32) (harg5 : arg5.IsWhole)
variable (v2 : BitVec 32) (K : BufOf (F := F) c arg2) (f : BufOf (F := F) c (inSlot (Ring.sl 3 (stp i)))) (g : BufOf (F := F) c (outSlot (Ring.sl 4 (stp i))))
variable (hf : (inSlot (Ring.sl 3 (stp i))).view.read (Elt F) f = (qBlk (Ring.bk 16 (stp i))).view.read (Elt F) Q)
variable (hG : oM.view.read (Elt F) G = Gout (wpos v2) (arg2.view.read (Elt F) K) (qM.view.read (Elt F) Q))

include hf hG

/-- A step whose rows do not meet the rows written fills its output slot with its block of the result, by one transpose. -/
theorem plain_run (h : notOver i v2 = 1#1) :
    iprop(inHas c (Ring.sl 3 (stp i)) f ∗ outHas c (Ring.sl 4 (stp i)) g)
      ⊢ WP c (plain i v2) (fun _ => iprop(inHas c (Ring.sl 3 (stp i)) f ∗ ∃ g' : BufOf (F := F) c (outSlot (Ring.sl 4 (stp i))), outHas c (Ring.sl 4 (stp i)) g'
          ∗ ⌜(outSlot (Ring.sl 4 (stp i))).view.read (Elt F) g' = (oBlk (Ring.bk 16 (stp i))).view.read (Elt F) G⌝)) := by
  unfold WP plain plainK
  rw [if_pos h]
  iintro ⟨Hi, Ho⟩
  sl_exec
  sl_step
  isplitl [Hi]; · iexact Hi
  iexists _
  isplitl [Ho]; · iexact Ho
  ipureintro
  exact upto_end i G (upto_plain i v2 arg2 K Q G f hf hG ((notOver_iff i v2).mp h) (k0_off41_eq i) _ (k0_off40_eq i) _ g)

set_option maxHeartbeats 4000000 in
/-- A step whose rows meet the rows written fills its output slot with its block of the result, chunk by chunk. -/
theorem blend_run (hw : k0_chk1 i v2) (h : k0_cond3 i v2 = 1#1) :
    iprop((arg2.view.loc (c : Thread nD τ) ↦{fullShare} K) ∗ inHas c (Ring.sl 3 (stp i)) f ∗ outHas c (Ring.sl 4 (stp i)) g)
      ⊢ WP c (blend i arg2 harg2 arg5 harg5 v2 hw) (fun _ => iprop((arg2.view.loc (c : Thread nD τ) ↦{fullShare} K) ∗ inHas c (Ring.sl 3 (stp i)) f
          ∗ ∃ g' : BufOf (F := F) c (outSlot (Ring.sl 4 (stp i))), outHas c (Ring.sl 4 (stp i)) g'
          ∗ ⌜(outSlot (Ring.sl 4 (stp i))).view.read (Elt F) g' = (oBlk (Ring.bk 16 (stp i))).view.read (Elt F) G⌝)) := by
  unfold WP blend blendK
  rw [dif_pos h]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  iintro ⟨Hk, Hi, Ho⟩
  sl_exec
  sl_step
  isplitl [Hk]; · iexact Hk
  isplitl [Hi]; · iexact Hi
  iexists _
  isplitl [Ho]; · iexact Ho
  ipureintro
  refine upto_end i G ?_
  refine upto_step i v2 arg2 K Q G f hf hG 15 (k0_off39_eq i) (k0_off39_inb i) (k0_off38_eq i) (k0_off38_inb i) (k0_off7_inb i v2 hw h 15) _ ?_
  refine upto_step i v2 arg2 K Q G f hf hG 14 (k0_off37_eq i) (k0_off37_inb i) (k0_off36_eq i) (k0_off36_inb i) (k0_off7_inb i v2 hw h 14) _ ?_
  refine upto_step i v2 arg2 K Q G f hf hG 13 (k0_off35_eq i) (k0_off35_inb i) (k0_off34_eq i) (k0_off34_inb i) (k0_off7_inb i v2 hw h 13) _ ?_
  refine upto_step i v2 arg2 K Q G f hf hG 12 (k0_off33_eq i) (k0_off33_inb i) (k0_off32_eq i) (k0_off32_inb i) (k0_off7_inb i v2 hw h 12) _ ?_
  refine upto_step i v2 arg2 K Q G f hf hG 11 (k0_off31_eq i) (k0_off31_inb i) (k0_off30_eq i) (k0_off30_inb i) (k0_off7_inb i v2 hw h 11) _ ?_
  refine upto_step i v2 arg2 K Q G f hf hG 10 (k0_off29_eq i) (k0_off29_inb i) (k0_off28_eq i) (k0_off28_inb i) (k0_off7_inb i v2 hw h 10) _ ?_
  refine upto_step i v2 arg2 K Q G f hf hG 9 (k0_off27_eq i) (k0_off27_inb i) (k0_off26_eq i) (k0_off26_inb i) (k0_off7_inb i v2 hw h 9) _ ?_
  refine upto_step i v2 arg2 K Q G f hf hG 8 (k0_off25_eq i) (k0_off25_inb i) (k0_off24_eq i) (k0_off24_inb i) (k0_off7_inb i v2 hw h 8) _ ?_
  refine upto_step i v2 arg2 K Q G f hf hG 7 (k0_off23_eq i) (k0_off23_inb i) (k0_off22_eq i) (k0_off22_inb i) (k0_off7_inb i v2 hw h 7) _ ?_
  refine upto_step i v2 arg2 K Q G f hf hG 6 (k0_off21_eq i) (k0_off21_inb i) (k0_off20_eq i) (k0_off20_inb i) (k0_off7_inb i v2 hw h 6) _ ?_
  refine upto_step i v2 arg2 K Q G f hf hG 5 (k0_off19_eq i) (k0_off19_inb i) (k0_off18_eq i) (k0_off18_inb i) (k0_off7_inb i v2 hw h 5) _ ?_
  refine upto_step i v2 arg2 K Q G f hf hG 4 (k0_off17_eq i) (k0_off17_inb i) (k0_off16_eq i) (k0_off16_inb i) (k0_off7_inb i v2 hw h 4) _ ?_
  refine upto_step i v2 arg2 K Q G f hf hG 3 (k0_off15_eq i) (k0_off15_inb i) (k0_off14_eq i) (k0_off14_inb i) (k0_off7_inb i v2 hw h 3) _ ?_
  refine upto_step i v2 arg2 K Q G f hf hG 2 (k0_off13_eq i) (k0_off13_inb i) (k0_off12_eq i) (k0_off12_inb i) (k0_off7_inb i v2 hw h 2) _ ?_
  refine upto_step i v2 arg2 K Q G f hf hG 1 (k0_off11_eq i) (k0_off11_inb i) (k0_off10_eq i) (k0_off10_inb i) (k0_off7_inb i v2 hw h 1) _ ?_
  refine upto_step i v2 arg2 K Q G f hf hG 0 (k0_off9_eq i) (k0_off9_inb i) (k0_off8_eq i) (k0_off8_inb i) (k0_off7_inb i v2 hw h 0) _ ?_
  exact upto_zero i G g

end Cert.Kernel.Queue

end
-- ==== Proof.Kernel.Body.lean ====
/-
  One whole step: from the rings before it to the rings after it.
-/
module

public import proofs.«01_k».proof.Proof.Kernel.Fill

@[expose] public section

set_option maxRecDepth 16384

noncomputable section

namespace Cert.Kernel.Queue

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- A piece that needs only a part of what is held, and the pieces after it. -/
theorem WP_seq {α β : Type} {P Fr : sProp 𝕄} {R : α → sProp 𝕄} {p : Step (F := F) α} {k : α → Step (F := F) β} {K : β → sProp 𝕄}
    (h : P ⊢ WP c p R) (h' : ∀ a, iprop(R a ∗ Fr) ⊢ WP c (k a) K) : iprop(P ∗ Fr) ⊢ WP c (p >>= k) K := by
  unfold WP
  rw [wp_bind]
  exact (sep_mono h .rfl).trans ((wp_frame_r frame (wpE (defs₀ (F := F)) Variants.none c none) Set.univ).trans (wp_mono _ _ _ fun a => h' a))

/-- A piece that needs only a part of what is held, alone. -/
theorem WP_frame {α : Type} {P Fr : sProp 𝕄} {R : α → sProp 𝕄} {p : Step (F := F) α} {K : α → sProp 𝕄}
    (h : P ⊢ WP c p R) (h' : ∀ a, iprop(R a ∗ Fr) ⊢ K a) : iprop(P ∗ Fr) ⊢ WP c p K :=
  (sep_mono h .rfl).trans ((wp_frame_r frame (wpE (defs₀ (F := F)) Variants.none c none) Set.univ).trans (wp_mono _ _ _ h'))

variable (i : grid0.Coords) (Q : BufOf (F := F) c qM) (V₀ G : BufOf (F := F) c oM)
variable (arg2 : Memref sig .tc .vmem S6144x128 .f32) (harg2 : arg2.IsWhole) (arg5 : Memref sig .tc .vmem S256x128 .f32) (harg5 : arg5.IsWhole)
variable (K : BufOf (F := F) c arg2) (T : BufOf (F := F) c ptM) (q : PosShare TreeShare)

/-- The padded keys held. -/
abbrev kHas : sProp 𝕄 := arg2.view.loc (c : Thread nD τ) ↦{fullShare} K
/-- The table held. -/
abbrev tHas : sProp 𝕄 := ptM.view.loc (c : Thread nD τ) ↦{q} T
/-- The word in the table. -/
abbrev ptWord : BitVec 32 := ptM.view.read (Elt F) T (ix1 (0 : Fin 1))

/-- The write position is read from the table. -/
theorem readPt_spec :
    tHas c T q ⊢ WP c (smemLoad ptM (Rect.unit (s := S1) ![0] S1.size inb_S1_S1_0) numel1_S1 rfl) (fun v2 => iprop(tHas c T q ∗ ⌜v2 = ptWord c T⌝)) := by
  unfold WP
  iintro Ht
  sl_exec
  sl_step
  isplitl [Ht]; · iexact Ht
  ipureintro
  exact congrArg (ptM.view.read (Elt F) T) (Shape.idx1_ext rfl)

/-- The part of the slot's filling that is done after the chunked way was offered. -/
def outMid (v2 : BitVec 32) : sProp 𝕄 :=
  if Over i v2 then outFull c G (Ring.sl 4 (stp i)) (Ring.bk 16 (stp i)) else outFree c (Ring.sl 4 (stp i))

variable (v2 : BitVec 32)
variable (hG : oM.view.read (Elt F) G = Gout (wpos v2) (arg2.view.read (Elt F) K) (qM.view.read (Elt F) Q))

include hG

/-- The chunked way, taken where it is needed. -/
theorem blend_spec (hw : k0_chk1 i v2) :
    iprop(kHas c arg2 K ∗ inFull c Q (Ring.sl 3 (stp i)) (Ring.bk 16 (stp i)) ∗ outFree c (Ring.sl 4 (stp i)))
      ⊢ WP c (blend i arg2 harg2 arg5 harg5 v2 hw)
          (fun _ => iprop(kHas c arg2 K ∗ inFull c Q (Ring.sl 3 (stp i)) (Ring.bk 16 (stp i)) ∗ outMid c i G v2)) := by
  unfold outMid
  by_cases h : k0_cond3 i v2 = 1#1
  · rw [if_pos ((cond3_iff i v2).mp h)]
    unfold inFull outFull outFree
    iintro ⟨Hk, ⟨Hc, Hq, %f, Hi, %hf⟩, Hd, %g, Ho⟩
    iapply (WP_frame c (blend_run c i Q G arg2 harg2 arg5 harg5 v2 K f g hf hG hw h)
      (Fr := iprop(semVal ((c : Thread nD τ), inLoc (Ring.sl 3 (stp i))) 0 ∗ qWhole c Q (Ring.sl 3 (stp i)) ∗ semVal ((c : Thread nD τ), outLoc (Ring.sl 4 (stp i))) 0)) ?_)
    rotate_left
    isplitl [Hk Hi Ho]
    · isplitl [Hk]; · iexact Hk
      isplitl [Hi]; · iexact Hi
      iexact Ho
    · isplitl [Hc]; · iexact Hc
      isplitl [Hq]; · iexact Hq
      iexact Hd
    intro _
    iintro ⟨⟨Hk, Hi, %g', Ho, %hg⟩, Hc, Hq, Hd⟩
    isplitl [Hk]; · iexact Hk
    isplitl [Hc Hq Hi]
    · isplitl [Hc]; · iexact Hc
      isplitl [Hq]; · iexact Hq
      iexists f; isplitl [Hi]; · iexact Hi
      ipureintro; exact hf
    · isplitl [Hd]; · iexact Hd
      iexists g'; isplitl [Ho]; · iexact Ho
      ipureintro; exact hg
  · rw [if_neg (fun e => h ((cond3_iff i v2).mpr e))]
    unfold WP blend blendK
    rw [dif_neg h]
    iintro H
    sl_step
    iexact H

/-- The whole transpose, taken where the chunked way was not. -/
theorem plain_spec :
    iprop(inFull c Q (Ring.sl 3 (stp i)) (Ring.bk 16 (stp i)) ∗ outMid c i G v2)
      ⊢ WP c (plain i v2) (fun _ => iprop(inFree c Q (Ring.sl 3 (stp i)) ∗ outFull c G (Ring.sl 4 (stp i)) (Ring.bk 16 (stp i)))) := by
  unfold outMid
  by_cases h : notOver i v2 = 1#1
  · rw [if_neg ((notOver_iff i v2).mp h)]
    unfold inFull inFree outFull outFree
    iintro ⟨⟨Hc, Hq, %f, Hi, %hf⟩, Hd, %g, Ho⟩
    iapply (WP_frame c (plain_run c i Q G arg2 v2 K f g hf hG h)
      (Fr := iprop(semVal ((c : Thread nD τ), inLoc (Ring.sl 3 (stp i))) 0 ∗ qWhole c Q (Ring.sl 3 (stp i)) ∗ semVal ((c : Thread nD τ), outLoc (Ring.sl 4 (stp i))) 0)) ?_)
    rotate_left
    isplitl [Hi Ho]
    · isplitl [Hi]; · iexact Hi
      iexact Ho
    · isplitl [Hc]; · iexact Hc
      isplitl [Hq]; · iexact Hq
      iexact Hd
    intro _
    iintro ⟨⟨Hi, %g', Ho, %hg⟩, Hc, Hq, Hd⟩
    isplitl [Hc Hq Hi]
    · isplitl [Hc]; · iexact Hc
      iexists f; isplitl [Hi]; · iexact Hi
      iexact Hq
    · isplitl [Hd]; · iexact Hd
      iexists g'; isplitl [Ho]; · iexact Ho
      ipureintro; exact hg
  · have ho : Over i v2 := Classical.not_not.mp fun e => h ((notOver_iff i v2).mpr e)
    rw [if_pos ho]
    unfold WP plain plainK inFull inFree
    rw [if_neg h]
    iintro ⟨⟨Hc, Hq, %f, Hi, %hf⟩, Ho⟩
    sl_step
    isplitr [Ho]
    · isplitl [Hc]; · iexact Hc
      iexists f; isplitl [Hi]; · iexact Hi
      iexact Hq
    · iexact Ho

omit hG

/-- The step's 256 rows of the new keys, as the staging block reads them. -/
def newRows (KP : Vec F S6144x128 .f32) : Vec F S256x128 .f32 := fun x =>
  KP (ix2 (⟨256 * stp i + 1024 + (x 0).val, by have := stp_lt i; have : (x 0).val < 256 := (x 0).isLt; omega⟩ : Fin 6144) (x 1))

theorem pay1_at (w : Vec F S256x128 .f32) (a : Fin 256) (d : Fin 128) : k0_pay1 w (ix2 a d) = w (ix2 a d) := by
  pointwise [k0_pay1]

/-- A load of 256 rows of the padded keys from row `n`. -/
theorem load_rows {o : Fin 2 → ℕ} (n : ℕ) (ho : o = ![n, 0]) (inb : ∀ a, o a + S256x128.size a ≤ S6144x128.size a)
    (f : arg2.view.ty.Contents (Elt F)) (a : Fin 6144) (b : Fin 256) (d : Fin 128) (h : a.val = n + b.val) :
    arg2.view.readAt (Elt F) (Rect.unit (s := S6144x128) o S256x128.size inb).toLoadRect f (ix2 b d) = arg2.view.read (Elt F) f (ix2 a d) := by
  subst ho
  refine congrArg (arg2.view.read (Elt F) f) (funext fun x => Fin.ext ?_)
  match x with
  | ⟨0, _⟩ => show n + 1 * b.val = a.val; omega
  | ⟨1, _⟩ => show 0 + 1 * d.val = d.val; omega

/-- The staging block receives them. -/
theorem newKeys_spec :
    iprop(kHas c arg2 K ∗ ∃ g5 : BufOf (F := F) c arg5, arg5.view.loc (c : Thread nD τ) ↦{fullShare} g5)
      ⊢ WP c (newKeys i arg2 arg5) (fun _ => iprop(kHas c arg2 K ∗ ∃ g5 : BufOf (F := F) c arg5, (arg5.view.loc (c : Thread nD τ) ↦{fullShare} g5)
          ∗ ⌜arg5.view.read (Elt F) g5 = newRows i (arg2.view.read (Elt F) K)⌝)) := by
  unfold WP newKeys
  iintro ⟨Hk, %g5, Hg⟩
  sl_exec
  sl_step
  isplitl [Hk]; · iexact Hk
  iexists _
  isplitl [Hg]; · iexact Hg
  ipureintro
  funext x
  obtain ⟨a, d, rfl⟩ : ∃ (a : Fin 256) (d : Fin 128), x = ix2 a d := ⟨x 0, x 1, eq_ix2 x⟩
  refine (View.read_writes_cons_unit_of_mem arg5.view g5 inb_S256x128_S256x128_0_0 _ [] (ix2 a d) (ix2 a d) rfl fun y => ?_).trans ?_
  · match y with
    | ⟨0, _⟩ => show a.val = 0 + a.val; omega
    | ⟨1, _⟩ => show d.val = 0 + d.val; omega
  · refine (pay1_at _ a d).trans (load_rows arg2 (256 * stp i + 1024) (k0_off48_eq i) (k0_off48_inb i) K _ a d rfl)

/-- At the last step the last four copies are waited for. -/
theorem drain_spec :
    iprop((outRole c V₀ G (stp i + 1) ∗ outRole c V₀ G (stp i + 2) ∗ outRole c V₀ G (stp i + 3) ∗ outRole c V₀ G (stp i + 4)) ∗ oAhead c V₀ (stp i + 1) ∗ oBehind c G (stp i + 1) ∗ Owes c)
      ⊢ WP c (drain i) (fun _ => iprop(outRing c V₀ G (stp i + 1) ∗ Owes c)) := by
  unfold WP drain drainK outRing
  by_cases h : k0_cond6 i = 1#1
  · have e : stp i = 15 := (cond6_iff i).mp h
    rw [dif_pos h, if_neg (by omega), e]
    have er : ∀ q, 4 ≤ q → outRole c V₀ G q = outFly c V₀ G (Ring.sl 4 q) (Ring.bk 16 (q - 4)) := fun q hq => by unfold outRole; rw [if_neg (by omega)]
    rw [er _ (by decide), er _ (by decide), er _ (by decide), er _ (by decide)]
    rw [show Ring.sl 4 (15 + 1) = 0 from rfl, show Ring.sl 4 (15 + 2) = 1 from rfl, show Ring.sl 4 (15 + 3) = 2 from rfl, show Ring.sl 4 (15 + 4) = 3 from rfl,
      show Ring.bk 16 (15 + 1 - 4) = 12 from rfl, show Ring.bk 16 (15 + 2 - 4) = 13 from rfl, show Ring.bk 16 (15 + 3 - 4) = 14 from rfl, show Ring.bk 16 (15 + 4 - 4) = 15 from rfl]
    unfold outFly outFree oBehind
    have eu : (Finset.univ : Finset (Fin 16)) = insert 12 (insert 13 (insert 14 (insert 15 (Ring.behindSet 4 (15 + 1))))) := by decide
    rw [eu, Ring.bigSep_put (by decide), Ring.bigSep_put (by decide), Ring.bigSep_put (by decide), Ring.bigSep_put (by decide)]
    iintro ⟨⟨⟨%g0, H0, %h0⟩, ⟨%g1, H1, %h1⟩, ⟨%g2, H2, %h2⟩, ⟨%g3, H3, %h3⟩⟩, -, HB, %W, HW⟩
    sl_exec (disch := first | sl_exact h)
    sl_step
    isplitr [HW]
    · isplitr [HB H0_dst H1_dst H2_dst H3_dst]
      · isplitl [H0 H0_src]
        · isplitl [H0]; · iexact H0
          iexists _; iexact H0_src
        isplitl [H1 H1_src]
        · isplitl [H1]; · iexact H1
          iexists _; iexact H1_src
        isplitl [H2 H2_src]
        · isplitl [H2]; · iexact H2
          iexists _; iexact H2_src
        · isplitl [H3]; · iexact H3
          iexists _; iexact H3_src
      · isplitl [H0_dst]; · iapply oLanded_kept c V₀ G 0 12 g0 h0; iexact H0_dst
        isplitl [H1_dst]; · iapply oLanded_kept c V₀ G 1 13 g1 h1; iexact H1_dst
        isplitl [H2_dst]; · iapply oLanded_kept c V₀ G 2 14 g2 h2; iexact H2_dst
        isplitl [H3_dst]; · iapply oLanded_kept c V₀ G 3 15 g3 h3; iexact H3_dst
        iexact HB
    · iexists _; iexact HW
  · have e : ¬ stp i = 15 := fun e => h ((cond6_iff i).mpr e)
    have := stp_lt i
    rw [dif_neg h, if_pos (by omega)]
    iintro ⟨HR, HA, HB, HW⟩
    sl_step
    isplitr [HW]
    · isplitl [HR]; · iexact HR
      isplitl [HA]; · iexact HA
      iexact HB
    · iexact HW

/-- The check on the word read always passes. -/
theorem assume_spec (P : sProp 𝕄) :
    P ⊢ WP c (Prog.lift (TpuEff.assume (k0_chk1 i v2) (k0_chk1.dec i v2))) (fun _ => P) := by
  unfold WP
  have h := k0_chk1_all i v2
  iintro H
  sl_exec (disch := first | sl_exact h)
  sl_step
  iexact H

/-- What a step is given, and what it returns: the rings, the table, the padded keys and the staging block. -/
def Before (i : grid0.Coords) : sProp 𝕄 :=
  iprop((inRing c Q (stp i) ∗ outRing c V₀ G (stp i) ∗ tHas c T q ∗ Owes c) ∗ kHas c arg2 K ∗ ∃ g5 : BufOf (F := F) c arg5, arg5.view.loc (c : Thread nD τ) ↦{fullShare} g5)
@[inherit_doc Before] def After (i : grid0.Coords) : sProp 𝕄 :=
  iprop((inRing c Q (stp i + 1) ∗ outRing c V₀ G (stp i + 1) ∗ tHas c T q ∗ Owes c) ∗ kHas c arg2 K
    ∗ ∃ g5 : BufOf (F := F) c arg5, (arg5.view.loc (c : Thread nD τ) ↦{fullShare} g5) ∗ ⌜arg5.view.read (Elt F) g5 = newRows i (arg2.view.read (Elt F) K)⌝)

variable (hT : oM.view.read (Elt F) G = Gout (wpos (ptWord c T)) (arg2.view.read (Elt F) K) (qM.view.read (Elt F) Q))
include hT

/-- The first window of the step: the block has arrived, the output slot is filled. -/
theorem part11_spec :
    iprop(inRing c Q (stp i) ∗ (outRole c V₀ G (stp i) ∗ oBehind c G (stp i)) ∗ tHas c T q ∗ Owes c ∗ kHas c arg2 K)
      ⊢ WP c (k0_part11 (F := F) i ptM (Memref.isWhole_whole _) arg2 harg2 qM (Memref.isWhole_whole _) oM (Memref.isWhole_whole _) arg5 harg5 inM (Memref.isWhole_whole _) outM (Memref.isWhole_whole _) cc0_scratch2 cc0_scratch3)
          (fun _ => iprop(((inFree c Q (Ring.sl 3 (stp i)) ∗ outFull c G (Ring.sl 4 (stp i)) (Ring.bk 16 (stp i)))
            ∗ (inRole c Q (stp i + 1) ∗ inRole c Q (stp i + 2)) ∗ oBehind c G (stp i + 1)) ∗ tHas c T q ∗ Owes c ∗ kHas c arg2 K)) := by
  rw [part11_eq]
  have e1 : iprop(inRing c Q (stp i) ∗ (outRole c V₀ G (stp i) ∗ oBehind c G (stp i)) ∗ tHas c T q ∗ Owes c ∗ kHas c arg2 K)
      ⊢ iprop(tHas c T q ∗ (inRing c Q (stp i) ∗ (outRole c V₀ G (stp i) ∗ oBehind c G (stp i)) ∗ Owes c ∗ kHas c arg2 K)) := by
    iintro ⟨H1, H2, H3, H4, H5⟩
    isplitl [H3]; · iexact H3
    isplitl [H1]; · iexact H1
    isplitl [H2]; · iexact H2
    isplitl [H4]; · iexact H4
    iexact H5
  refine e1.trans (WP_seq c (readPt_spec c T q) fun v2 => ?_)
  iintro ⟨⟨Ht, %ev⟩, H1, H2, HW, Hk⟩
  subst ev
  iapply (WP_seq c (assume_spec c i (ptWord c T) iprop(inRing c Q (stp i) ∗ Owes c)) (Fr := iprop(tHas c T q ∗ (outRole c V₀ G (stp i) ∗ oBehind c G (stp i)) ∗ kHas c arg2 K)) ?_)
  rotate_left
  · isplitl [H1 HW]
    · isplitl [H1]; · iexact H1
      iexact HW
    isplitl [Ht]; · iexact Ht
    isplitl [H2]; · iexact H2
    iexact Hk
  intro hw
  refine WP_seq c (startIn_spec c Q i) fun _ => ?_
  iintro ⟨⟨H1, HW⟩, Ht, ⟨Ho, Hb⟩, Hk⟩
  iapply (WP_seq c (waitPast_spec c V₀ G i) (Fr := iprop(inRun c Q (stp i) ∗ tHas c T q ∗ kHas c arg2 K)) ?_)
  rotate_left
  · isplitl [Ho Hb HW]
    · isplitl [Ho]; · iexact Ho
      isplitl [Hb]; · iexact Hb
      iexact HW
    isplitl [H1]; · iexact H1
    isplitl [Ht]; · iexact Ht
    iexact Hk
  intro _
  unfold inRun
  iintro ⟨⟨Ho, Hb, HW⟩, ⟨H0, H1, H2⟩, Ht, Hk⟩
  iapply (WP_seq c (waitNow_spec c Q i) (Fr := iprop(outFree c (Ring.sl 4 (stp i)) ∗ kHas c arg2 K ∗ (inRole c Q (stp i + 1) ∗ inRole c Q (stp i + 2)) ∗ oBehind c G (stp i + 1) ∗ tHas c T q)) ?_)
  rotate_left
  · isplitl [H0 HW]
    · isplitl [H0]; · iexact H0
      iexact HW
    isplitl [Ho]; · iexact Ho
    isplitl [Hk]; · iexact Hk
    isplitl [H1 H2]
    · isplitl [H1]; · iexact H1
      iexact H2
    isplitl [Hb]; · iexact Hb
    iexact Ht
  intro _
  iintro ⟨⟨Hi, HW⟩, Ho, Hk, HR, Hb, Ht⟩
  iapply (WP_seq c (blend_spec c i Q G arg2 harg2 arg5 harg5 K (ptWord c T) hT hw.down)
    (Fr := iprop((inRole c Q (stp i + 1) ∗ inRole c Q (stp i + 2)) ∗ oBehind c G (stp i + 1) ∗ tHas c T q ∗ Owes c)) ?_)
  rotate_left
  · isplitl [Hk Hi Ho]
    · isplitl [Hk]; · iexact Hk
      isplitl [Hi]; · iexact Hi
      iexact Ho
    isplitl [HR]; · iexact HR
    isplitl [Hb]; · iexact Hb
    isplitl [Ht]; · iexact Ht
    iexact HW
  intro _
  iintro ⟨⟨Hk, Hi, Ho⟩, HR, Hb, Ht, HW⟩
  iapply (WP_seq c (plain_spec c i Q G arg2 K (ptWord c T) hT)
    (Fr := iprop((inRole c Q (stp i + 1) ∗ inRole c Q (stp i + 2)) ∗ oBehind c G (stp i + 1) ∗ tHas c T q ∗ Owes c ∗ kHas c arg2 K)) ?_)
  rotate_left
  · isplitl [Hi Ho]
    · isplitl [Hi]; · iexact Hi
      iexact Ho
    isplitl [HR]; · iexact HR
    isplitl [Hb]; · iexact Hb
    isplitl [Ht]; · iexact Ht
    isplitl [HW]; · iexact HW
    iexact Hk
  intro _
  unfold WP
  iintro ⟨HF, HR, Hb, Ht, HW, Hk⟩
  sl_step
  isplitl [HF HR Hb]
  · isplitl [HF]; · iexact HF
    isplitl [HR]; · iexact HR
    iexact Hb
  isplitl [Ht]; · iexact Ht
  isplitl [HW]; · iexact HW
  iexact Hk

/-- One step. -/
theorem body_spec :
    Before c Q V₀ G arg2 arg5 K T q i
      ⊢ WP c (cc0__body (F := F) i ptM (Memref.isWhole_whole _) arg2 harg2 qM (Memref.isWhole_whole _) oM (Memref.isWhole_whole _) arg5 harg5 inM (Memref.isWhole_whole _) outM (Memref.isWhole_whole _) cc0_scratch2 cc0_scratch3)
          (fun _ => After c Q V₀ G arg2 arg5 K T q i) := by
  rw [body_eq]
  unfold Before After
  have eo : outRing c V₀ G (stp i) = iprop((outRole c V₀ G (stp i) ∗ outRole c V₀ G (stp i + 1) ∗ outRole c V₀ G (stp i + 2) ∗ outRole c V₀ G (stp i + 3)) ∗ oAhead c V₀ (stp i) ∗ oBehind c G (stp i)) := by
    unfold outRing; rw [if_pos (stp_lt i)]
  rw [eo]
  iintro ⟨⟨H1, ⟨⟨Ho, HR⟩, Ha, Hb⟩, Ht, HW⟩, Hk, Hg⟩
  iapply (WP_seq c (part11_spec c i Q V₀ G arg2 harg2 arg5 harg5 K T q hT)
    (Fr := iprop((outRole c V₀ G (stp i + 1) ∗ outRole c V₀ G (stp i + 2) ∗ outRole c V₀ G (stp i + 3)) ∗ oAhead c V₀ (stp i) ∗ ∃ g5 : BufOf (F := F) c arg5, arg5.view.loc (c : Thread nD τ) ↦{fullShare} g5)) ?_)
  rotate_left
  · isplitl [H1 Ho Hb Ht HW Hk]
    · isplitl [H1]; · iexact H1
      isplitl [Ho Hb]
      · isplitl [Ho]; · iexact Ho
        iexact Hb
      isplitl [Ht]; · iexact Ht
      isplitl [HW]; · iexact HW
      iexact Hk
    isplitl [HR]; · iexact HR
    isplitl [Ha]; · iexact Ha
    iexact Hg
  intro _
  iintro ⟨⟨⟨⟨Hi, Ho⟩, HI, Hb⟩, Ht, HW, Hk⟩, HR, Ha, Hg⟩
  iapply (WP_seq c (sendOut_spec c V₀ G i)
    (Fr := iprop(inFree c Q (Ring.sl 3 (stp i)) ∗ (inRole c Q (stp i + 1) ∗ inRole c Q (stp i + 2)) ∗ oBehind c G (stp i + 1) ∗ tHas c T q ∗ kHas c arg2 K
      ∗ (outRole c V₀ G (stp i + 1) ∗ outRole c V₀ G (stp i + 2) ∗ outRole c V₀ G (stp i + 3)) ∗ ∃ g5 : BufOf (F := F) c arg5, arg5.view.loc (c : Thread nD τ) ↦{fullShare} g5)) ?_)
  rotate_left
  · isplitl [Ho Ha HW]
    · isplitl [Ho]; · iexact Ho
      isplitl [Ha]; · iexact Ha
      iexact HW
    isplitl [Hi]; · iexact Hi
    isplitl [HI]; · iexact HI
    isplitl [Hb]; · iexact Hb
    isplitl [Ht]; · iexact Ht
    isplitl [Hk]; · iexact Hk
    isplitl [HR]; · iexact HR
    iexact Hg
  intro _
  iintro ⟨⟨Ho, Ha, HW⟩, Hi, HI, Hb, Ht, Hk, HR, Hg⟩
  iapply (WP_seq c (sendIn_spec c Q i)
    (Fr := iprop(outRole c V₀ G (stp i + 4) ∗ oAhead c V₀ (stp i + 1) ∗ (inRole c Q (stp i + 1) ∗ inRole c Q (stp i + 2)) ∗ oBehind c G (stp i + 1) ∗ tHas c T q ∗ kHas c arg2 K
      ∗ (outRole c V₀ G (stp i + 1) ∗ outRole c V₀ G (stp i + 2) ∗ outRole c V₀ G (stp i + 3)) ∗ ∃ g5 : BufOf (F := F) c arg5, arg5.view.loc (c : Thread nD τ) ↦{fullShare} g5)) ?_)
  rotate_left
  · isplitl [Hi HW]
    · isplitl [Hi]; · iexact Hi
      iexact HW
    isplitl [Ho]; · iexact Ho
    isplitl [Ha]; · iexact Ha
    isplitl [HI]; · iexact HI
    isplitl [Hb]; · iexact Hb
    isplitl [Ht]; · iexact Ht
    isplitl [Hk]; · iexact Hk
    isplitl [HR]; · iexact HR
    iexact Hg
  intro _
  iintro ⟨⟨Hi, HW⟩, Ho, Ha, ⟨HI1, HI2⟩, Hb, Ht, Hk, ⟨HR1, HR2, HR3⟩, Hg⟩
  iapply (WP_seq c (newKeys_spec c i arg2 arg5 K)
    (Fr := iprop(inRing c Q (stp i + 1) ∗ ((outRole c V₀ G (stp i + 1) ∗ outRole c V₀ G (stp i + 2) ∗ outRole c V₀ G (stp i + 3) ∗ outRole c V₀ G (stp i + 4)) ∗ oAhead c V₀ (stp i + 1) ∗ oBehind c G (stp i + 1) ∗ Owes c) ∗ tHas c T q)) ?_)
  rotate_left
  · isplitl [Hk Hg]
    · isplitl [Hk]; · iexact Hk
      iexact Hg
    isplitl [HI1 HI2 Hi]
    · unfold inRing inRun
      rw [if_neg (Nat.succ_ne_zero _)]
      isplitl [HI1]; · iexact HI1
      isplitl [HI2]; · iexact HI2
      iexact Hi
    isplitr [Ht]
    · isplitl [HR1 HR2 HR3 Ho]
      · isplitl [HR1]; · iexact HR1
        isplitl [HR2]; · iexact HR2
        isplitl [HR3]; · iexact HR3
        iexact Ho
      isplitl [Ha]; · iexact Ha
      isplitl [Hb]; · iexact Hb
      iexact HW
    · iexact Ht
  intro _
  iintro ⟨⟨Hk, Hg⟩, HI, HO, Ht⟩
  iapply (WP_frame c (drain_spec c i V₀ G)
    (Fr := iprop(inRing c Q (stp i + 1) ∗ tHas c T q ∗ kHas c arg2 K ∗ ∃ g5 : BufOf (F := F) c arg5, (arg5.view.loc (c : Thread nD τ) ↦{fullShare} g5) ∗ ⌜arg5.view.read (Elt F) g5 = newRows i (arg2.view.read (Elt F) K)⌝)) ?_)
  rotate_left
  · isplitl [HO]; · iexact HO
    isplitl [HI]; · iexact HI
    isplitl [Ht]; · iexact Ht
    isplitl [Hk]; · iexact Hk
    iexact Hg
  intro _
  iintro ⟨⟨HO, HW⟩, HI, Ht, Hk, Hg⟩
  isplitr [Hk Hg]
  · isplitl [HI]; · iexact HI
    isplitl [HO]; · iexact HO
    isplitl [Ht]; · iexact Ht
    iexact HW
  isplitl [Hk]; · iexact Hk
  iexact Hg

end Cert.Kernel.Queue

end
-- ==== Proof.Kernel.Region.lean ====
/-
  The pipeline around the step: what the buffers hold when it is entered, what each window and the rings hold before
  and after each point, and the step at a point.
-/
module

public import proofs.«01_k».proof.Proof.Kernel.Body
public import proofs.«01_k».proof.Proof.Gen.Kernel.Launch
public import Idealize.ShloMosaic.Lib.Pipeline.FrameBody
public import Idealize.ShloMosaic.Lib.Pipeline.FrameValue
public import Idealize.ShloMosaic.Lib.Claim

@[expose] public section

set_option maxRecDepth 16384

noncomputable section

namespace Cert.Kernel.Queue

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ)

/-! ## The buffers when the pipeline is entered -/

/-- The contents of a buffer of core `c` when the pipeline is entered. -/
def entry (c : Dev nD) (b : Ref sig .tc) : Buf (Elt F) ((c : Thread nD τ).loc b) :=
  StableHlo.after ([hostOps0, hostOps0_1] : List (List (HloOp τ sig (Elt F)))).flatten (fun b => m (c, b)) b

theorem pads_fresh : (hostOps0 : List (HloOp τ sig (Elt F))).Forall fun op => op.fresh = ∅ := ⟨rfl, rfl, rfl, rfl, rfl⟩
theorem table_fresh : (hostOps0_1 : List (HloOp τ sig (Elt F))).Forall fun op => op.fresh = ∅ := rfl

/-- The program is the host operations, then the pipeline. -/
theorem main_shape : Pipeline.HMainP (Ix := Unit) (Name := ℕ) (U := Pipeline.UD sig nD τ) (Lvl := ℕ) pcfgs 0 defs₀ Variants.none m (main (F := F)) (entry m) :=
  Pipeline.hmainP_prefixes pcfgs 0 defs₀ Variants.none m main [hostOps0, hostOps0_1]
    (by simp only [List.Forall]; exact ⟨hostOps0_sub, hostOps0_1_sub⟩) (by simp only [List.Forall]; exact ⟨pads_fresh, table_fresh⟩) main_chain

/-- The padded keys. -/
def keys (c : Dev nD) : Vec F S6144x128 .f32 := entry m c main_v2
/-- The queue. -/
def queue (c : Dev nD) : BufOf (F := F) c qM := entry m c main_arg1
/-- The result's first contents. -/
def blank (c : Dev nD) : BufOf (F := F) c oM := entry m c main_v4_0
/-- The table. -/
def tableOf (c : Dev nD) : BufOf (F := F) c ptM := entry m c main_v3
/-- The result's last contents. -/
def result (c : Dev nD) : BufOf (F := F) c oM := Gout (wpos (ptWord c (tableOf m c))) (keys m c) (queue m c)

/-- The tables as the pipeline reads them. -/
def tables (p : Fin 1) : (pcfgs (F := F) p).Adm := ⟨fun k => entry m 0 (pre0.ref k), trivial⟩

/-! ## The pipeline's data -/

/-- What is held between two points, besides the windows. -/
def Held (c : Dev nD) (t : ℕ) : sProp 𝕄 :=
  iprop((∃ r, prngReg c r) ∗ inRing c (queue m c) t ∗ outRing c (blank m c) (result m c) t ∗ tHas c (tableOf m c) fullShare.right)

/-- What each window holds after each point. -/
def dats (p : Fin 1) (c : Dev nD) : Dat τ (Elt F) Unit ℕ (Pipeline.UD sig nD τ) ℕ (Pipeline.pin pcfgs (tables m) p) c where
  A w := entry m c (Pipeline.arrRef spec0 w)
  after w t := match w with
    | ⟨0, _⟩ => keys m c
    | ⟨1, _⟩ => newRows (grid0.coords t) (keys m c)
  Φ t := Held m c t.val
  q _ := fullShare
  owed _ := 0

theorem dats_arrays (c : Dev nD) (w : Fin 2) : (dats m 0 c).A w = entry m c (Pipeline.arrRef spec0 w) := by
  dsimp only [dats]

theorem step_at (t : Fin grid0.N) : stp (grid0.coords t) = t.val := by
  have ht : t.val < 16 := Nat.lt_of_lt_of_eq t.isLt N_0
  have e : (grid0.coords t 0).val = t.val / 1 % 16 := Pipeline.Grid.coords_val t 0 (by decide) rfl
  simp only [stp, e]; omega

/-- The staging buffer of the padded keys at a point, and that of the rows of the keys. -/
abbrev keysAt (t : Fin grid0.N) : Memref sig .tc .vmem S6144x128 .f32 := spec0_0.stage ((cfg0 (tables (F := F) m 0)).slots t 0)
abbrev rowsAt (t : Fin grid0.N) : Memref sig .tc .vmem S256x128 .f32 := spec0_1.stage ((cfg0 (tables (F := F) m 0)).slots t 1)

theorem keysIx_eq (i : grid0.Coords) : cc0_transform_0 i = ![0, 0] := rfl
theorem rowsIx_eq : ∀ i : grid0.Coords, cc0_transform_3 i = ![stp i, 0] := by decide +kernel

/-- The block of the padded keys is the whole array, at every point. -/
theorem keys_block (c : Dev nD) (t : Fin grid0.N) : (dats m 0 c).blockOf (0 : Fin 2) t = keys m c := by
  funext x
  refine congrArg (keys m c) (funext fun a => Fin.ext ?_)
  exact Pipeline.Window.rect_emb_val_of_index_zero ((cfg0 (tables (F := F) m 0)).win (0 : Fin 2)) t a (by fin_cases a <;> rfl) x

/-- The padded keys' window shows the whole array, at every point. -/
theorem keys_before (c : Dev nD) (t : Fin grid0.N) (d) : (dats m 0 c).before (0 : Fin 2) t d = keys m c := by
  rw [(dats m 0 c).before_in_eq_fetched (0 : Fin 2) rfl (fun _ => rfl) (fun _ _ _ => rfl) (fun t => (keys_block m c t).symm) t d]
  exact keys_block m c t

/-! ## The rows of the keys, written back -/

/-- The row of the keys that a row of a point's block is. -/
theorem rows_at (t : Fin grid0.N) (y : S256x128.Idx) :
    (((cfg0 (tables (F := F) m 0)).win (1 : Fin 2)).rect t).emb y
      = (ix2 (⟨256 * t.val + (y 0).val, by have : t.val < 16 := Nat.lt_of_lt_of_eq t.isLt N_0; have : (y 0).val < 256 := (y 0).isLt; omega⟩ : Fin 4096) (y 1) : S4096x128.Idx) := by
  have e : ∀ a : Fin 2, cc0_transform_3 (grid0.coords t) a = (![t.val, 0] : Fin 2 → ℕ) a := fun a => by rw [rowsIx_eq, step_at]
  funext a
  refine Fin.ext ((Pipeline.Window.rect_emb_val ((cfg0 (tables (F := F) m 0)).win (1 : Fin 2)) t y a).trans ?_)
  refine (congrArg (fun n => n * S256x128.size a + (y a).val) (e a)).trans ?_
  fin_cases a
  · show t.val * 256 + (y 0).val = 256 * t.val + (y 0).val; omega
  · show 0 * 128 + (y 1).val = (y 1).val; omega

/-- Every point writes its block back. -/
theorem rows_flush (t : Fin grid0.N) : ((cfg0 (tables (F := F) m 0)).win (1 : Fin 2)).flush t = true := by
  have e : ∀ t : Fin grid0.N, t.val + 1 = grid0.N ∨ ∃ h : t.val + 1 < grid0.N, cc0_transform_3 (grid0.coords ⟨t.val + 1, h⟩) ≠ cc0_transform_3 (grid0.coords t) := by decide +kernel
  have e' := e t
  unfold Pipeline.Window.flush
  rw [Bool.and_eq_true, Bool.or_eq_true, decide_eq_true_eq, decide_eq_true_eq]
  exact ⟨rfl, e'⟩

/-- The keys, read off the padded keys. -/
def midRows (KP : Vec F S6144x128 .f32) : Vec F S4096x128 .f32 := fun x =>
  KP (ix2 (⟨1024 + (x 0).val, by have : (x 0).val < 4096 := (x 0).isLt; omega⟩ : Fin 6144) (x 1))

/-- After every point the array of the rows holds the middle rows of the padded keys. -/
theorem rows_written (c : Dev nD) : (dats m 0 c).arrAt (1 : Fin 2) grid0.N = midRows (keys m c) := by
  refine Pipeline.Dat.arrAt_eq_of_cover (dats m 0 c) (1 : Fin 2) (midRows (keys m c)) (fun t _ => ?_) fun x => ?_
  · funext y
    refine Eq.trans ?_ (congrArg (midRows (keys m c)) (rows_at m t y)).symm
    show newRows (grid0.coords t) (keys m c) y = _
    unfold newRows midRows
    refine congrArg (keys m c) ?_
    refine congrArg (fun n => (ix2 n (y 1) : S6144x128.Idx)) (Fin.ext ?_)
    show 256 * stp (grid0.coords t) + 1024 + (y 0).val = 1024 + (256 * t.val + (y 0).val)
    rw [step_at]; omega
  · have hx : (x 0).val < 4096 := (x 0).isLt
    let t : Fin grid0.N := ⟨(x 0).val / 256, by rw [N_0]; omega⟩
    let y : S256x128.Idx := ix2 (⟨(x 0).val % 256, Nat.mod_lt _ (by decide)⟩ : Fin 256) (x 1)
    refine ⟨t, rows_flush m t, ?_⟩
    have e := rows_at m t y
    have e' : (((cfg0 (tables (F := F) m 0)).win (1 : Fin 2)).blk t).view.emb y = x := e.trans (funext fun a => by
      fin_cases a
      · refine Fin.ext ?_
        show 256 * ((x 0).val / 256) + (x 0).val % 256 = (x 0).val
        omega
      · rfl)
    exact e' ▸ View.emb_mem_set _ y

/-! ## The step at a point -/

theorem keysAt_whole (t : Fin grid0.N) : (keysAt m t).IsWhole := hstage0_0 (((cfg0 (tables (F := F) m 0)).slots t 0).cast nbuf0_0)
theorem rowsAt_whole (t : Fin grid0.N) : (rowsAt m t).IsWhole := hstage0_1 (((cfg0 (tables (F := F) m 0)).slots t 1).cast nbuf0_1)

/-- The step at a point, on the buffers the pipeline hands it. -/
abbrev stepAt (t : Fin grid0.N) : Prog (TpuEff nD τ sig (Elt F) Λ₀ .tc) PUnit :=
  cc0__body (grid0.coords t) ptM (Memref.isWhole_whole _) (keysAt m t) (hstage0_0 (((cfg0 (tables (F := F) m 0)).slots t 0).cast nbuf0_0)) qM (Memref.isWhole_whole _) oM (Memref.isWhole_whole _)
    (rowsAt m t) (hstage0_1 (((cfg0 (tables (F := F) m 0)).slots t 1).cast nbuf0_1)) inM (Memref.isWhole_whole _) outM (Memref.isWhole_whole _) cc0_scratch2 cc0_scratch3

/-- What the step is called with. -/
def StepPre (c : Dev nD) (t : Fin grid0.N) : sProp 𝕄 :=
  iprop((dats m 0 c).Φ t.castSucc ∗ (dats m 0 c).owesAt () t.castSucc
    ∗ (∃ d, owns (c : Thread nD τ) (keysAt m t) fullShare ((dats m 0 c).before (0 : Fin 2) t d))
    ∗ (∃ d, owns (c : Thread nD τ) (rowsAt m t) fullShare ((dats m 0 c).before (1 : Fin 2) t d)))

/-- What the step leaves. -/
def StepPost (c : Dev nD) (t : Fin grid0.N) : sProp 𝕄 :=
  iprop((dats m 0 c).Φ t.succ ∗ (dats m 0 c).owesAt () t.succ
    ∗ owns (c : Thread nD τ) (keysAt m t) fullShare ((dats m 0 c).after (0 : Fin 2) t)
    ∗ owns (c : Thread nD τ) (rowsAt m t) fullShare ((dats m 0 c).after (1 : Fin 2) t))

theorem held_before (c : Dev nD) (t : Fin grid0.N) : (dats m 0 c).Φ t.castSucc = Held m c t.val := by
  dsimp only [dats]; simp only [Fin.val_castSucc]
theorem held_after (c : Dev nD) (t : Fin grid0.N) : (dats m 0 c).Φ t.succ = Held m c (t.val + 1) := by
  dsimp only [dats]; simp only [Fin.val_succ]

/-- The step at a point does what the data say. -/
theorem step_sound (c : Dev nD) (t : Fin grid0.N) :
    StepPre m c t ⊢ wp frame (wpE (defs₀ (F := F)) Variants.none c none) Set.univ (stepAt m t) (fun _ => StepPost m c t) := by
  unfold StepPre StepPost
  rw [held_before, held_after]
  unfold Dat.owesAt Pipeline.owesWithin
  rw [show (dats m 0 c).owed t.castSucc = 0 from rfl, show (dats m 0 c).owed t.succ = 0 from rfl]
  simp only [keys_before]
  unfold Held owns
  rw [(keysAt_whole m t).set_eq_univ, (rowsAt_whole m t).set_eq_univ]
  iintro ⟨⟨Hg, Hi, Ho, Ht⟩, ⟨%W, -, HW⟩, ⟨%d0, %f0, %e0, Hk⟩, ⟨%d1, %f1, -, Hr⟩⟩
  have hT : oM.view.read (Elt F) (result m c) = Gout (wpos (ptWord c (tableOf m c))) ((keysAt m t).view.read (Elt F) f0) (qM.view.read (Elt F) (queue m c)) := by
    rw [e0]; rfl
  iapply (WP_frame c (body_spec c (grid0.coords t) (queue m c) (blank m c) (result m c) (keysAt m t) (hstage0_0 (((cfg0 (tables (F := F) m 0)).slots t 0).cast nbuf0_0))
    (rowsAt m t) (hstage0_1 (((cfg0 (tables (F := F) m 0)).slots t 1).cast nbuf0_1)) f0 (tableOf m c) fullShare.right hT) (Fr := iprop(∃ r, prngReg c r)) ?_)
  rotate_left
  · isplitr [Hg]
    · unfold Before
      rw [step_at]
      isplitl [Hi Ho Ht HW]
      · isplitl [Hi]; · iexact Hi
        isplitl [Ho]; · iexact Ho
        isplitl [Ht]; · iexact Ht
        iexists W; iexact HW
      isplitl [Hk]; · iexact Hk
      iexists f1; iexact Hr
    · iexact Hg
  intro _
  unfold After
  rw [step_at]
  iintro ⟨⟨⟨Hi, Ho, Ht, ⟨%W', HW⟩⟩, Hk, ⟨%g5, Hr, %e5⟩⟩, Hg⟩
  isplitl [Hg Hi Ho Ht]
  · isplitl [Hg]; · iexact Hg
    isplitl [Hi]; · iexact Hi
    isplitl [Ho]; · iexact Ho
    iexact Ht
  isplitl [HW]
  · iexists W'
    isplitr; · ipureintro; exact fun _ _ => Or.inl trivial
    iexact HW
  isplitl [Hk]
  · iexists f0
    isplitr; · ipureintro; exact e0
    iexact Hk
  · iexists g5
    isplitr; · ipureintro; exact e5.trans (congrArg (newRows (grid0.coords t)) e0)
    iexact Hr

theorem step_row (t : Fin grid0.N) :
    defs₀ (F := F) .tc (cfg0 (tables (F := F) m 0)).body ((cfg0 (tables (F := F) m 0)).bodyArgs t ((cfg0 (tables (F := F) m 0)).slots t)) = stepAt m t := by
  unfold defs₀; rw [Defs.onTc_tc]

/-- The step at every point. -/
theorem steps_sound (c : Dev nD) : BodyObligation (dats (F := F) m 0 c) (defs₀ (F := F)) Variants.none () Set.univ := fun t => by
  rw [bigSep_W0, bigSep_W0]
  exact triple_restated (step_sound m c t) (by rw [← step_row]) .rfl fun _ => .rfl

end Cert.Kernel.Queue

end
-- ==== Proof.Kernel.Ends.lean ====
/-
  The launch: how its buffers become the first state of the rings and the last state becomes its buffers again, the run
  of the whole program, and what every run leaves in the arguments and in the results.
-/
module

public import proofs.«01_k».proof.Proof.Kernel.Region

@[expose] public section

set_option maxRecDepth 16384

noncomputable section

namespace Cert.Kernel.Queue

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ)

instance : NeZero grid0.N := ⟨by rw [N_0]; decide⟩

/-! ## The rings at the first point and after the last -/

/-- The input ring before the first step: the scratch, its three counters at zero, and the queue. -/
theorem inRing_enter (c : Dev nD) (Q : BufOf (F := F) c qM) :
    iprop((∃ f, (c : Thread nD τ).loc cc0_scratch0 ↦{fullShare} f) ∗ (semVal ((c : Thread nD τ), inLoc 0) 0 ∗ semVal ((c : Thread nD τ), inLoc 1) 0 ∗ semVal ((c : Thread nD τ), inLoc 2) 0)
      ∗ (((c : Thread nD τ).loc main_arg1) ↦{fullShare} Q)) ⊢ (inRing c Q 0 : sProp 𝕄) := by
  unfold inRing
  rw [if_pos rfl]
  unfold inFree
  iintro ⟨Hs, ⟨S0, S1, S2⟩, HQ⟩
  ihave HQ := (q_split c Q).1 $$ HQ
  icases HQ with ⟨Q0, Q1, Q2⟩
  ihave Hs := (Ring.slots3_split (U := Pipeline.UD sig nD τ) (ℓ := (c : Thread nD τ).loc cc0_scratch0) (q := fullShare) inSet inSet_disjoint inSet_cover
    (inHas c 0) (inHas c 1) (inHas c 2) (fun f => by unfold inHas; rw [inSet_eq]; rfl) (fun f => by unfold inHas; rw [inSet_eq]; rfl) (fun f => by unfold inHas; rw [inSet_eq]; rfl)) $$ Hs
  icases Hs with ⟨⟨%f0, H0⟩, ⟨%f1, H1⟩, ⟨%f2, H2⟩⟩
  isplitl [S0 H0 Q0]
  · isplitl [S0]; · iexact S0
    iexists f0; isplitl [H0]; · iexact H0
    iexact Q0
  isplitl [S1 H1 Q1]
  · isplitl [S1]; · iexact S1
    iexists f1; isplitl [H1]; · iexact H1
    iexact Q1
  · isplitl [S2]; · iexact S2
    iexists f2; isplitl [H2]; · iexact H2
    iexact Q2

/-- The input ring after the last step gives the scratch, its counters and the queue back. -/
theorem inRing_leave (c : Dev nD) (Q : BufOf (F := F) c qM) :
    (inRing c Q 16 : sProp 𝕄) ⊢ iprop((∃ f, (c : Thread nD τ).loc cc0_scratch0 ↦{fullShare} f)
      ∗ (semVal ((c : Thread nD τ), inLoc 0) 0 ∗ semVal ((c : Thread nD τ), inLoc 1) 0 ∗ semVal ((c : Thread nD τ), inLoc 2) 0)
      ∗ (((c : Thread nD τ).loc main_arg1) ↦{fullShare} Q)) := by
  unfold inRing
  rw [if_neg (by decide)]
  unfold inRun inRole
  rw [if_neg (by decide), if_neg (by decide), if_neg (by decide), show Ring.sl 3 16 = (1 : Fin 3) from by decide, show Ring.sl 3 (16 + 1) = (2 : Fin 3) from by decide,
    show Ring.sl 3 (16 + 2) = (0 : Fin 3) from by decide]
  unfold inFree
  iintro ⟨⟨S1, ⟨%f1, H1, Q1⟩⟩, ⟨S2, ⟨%f2, H2, Q2⟩⟩, ⟨S0, ⟨%f0, H0, Q0⟩⟩⟩
  isplitl [H0 H1 H2]
  · iapply (Ring.slots3_join (U := Pipeline.UD sig nD τ) (ℓ := (c : Thread nD τ).loc cc0_scratch0) (q := fullShare) inSet inSet_disjoint inSet_cover
      (inHas c 0) (inHas c 1) (inHas c 2) (fun f => by unfold inHas; rw [inSet_eq]; rfl) (fun f => by unfold inHas; rw [inSet_eq]; rfl) (fun f => by unfold inHas; rw [inSet_eq]; rfl))
    isplitl [H0]; · iexists f0; iexact H0
    isplitl [H1]; · iexists f1; iexact H1
    iexists f2; iexact H2
  isplitl [S0 S1 S2]
  · isplitl [S0]; · iexact S0
    isplitl [S1]; · iexact S1
    iexact S2
  iapply (q_split c Q).2
  isplitl [Q0]; · iexact Q0
  isplitl [Q1]; · iexact Q1
  iexact Q2

/-- The result held whole is its blocks. -/
theorem oKept_whole (c : Dev nD) (f : BufOf (F := F) c oM) :
    (((c : Thread nD τ).loc main_v4_0) ↦{fullShare} f : sProp 𝕄) = bigSep Finset.univ (oKept c f) := by
  refine (Ring.pointsTo_blocks (U := Pipeline.UD sig nD τ) (ℓ := (c : Thread nD τ).loc main_v4_0) (q := fullShare) oSet oSet_disjoint oSet_cover f).trans ?_
  refine congrArg (bigSep Finset.univ) (funext fun b => ?_)
  unfold oKept oHas
  rw [oSet_eq]
  rfl

/-- The output ring before the first step: the scratch, its four counters at zero, and the result. -/
theorem outRing_enter (c : Dev nD) (V₀ G : BufOf (F := F) c oM) :
    iprop((∃ f, (c : Thread nD τ).loc cc0_scratch1 ↦{fullShare} f)
      ∗ (semVal ((c : Thread nD τ), outLoc 0) 0 ∗ semVal ((c : Thread nD τ), outLoc 1) 0 ∗ semVal ((c : Thread nD τ), outLoc 2) 0 ∗ semVal ((c : Thread nD τ), outLoc 3) 0)
      ∗ (((c : Thread nD τ).loc main_v4_0) ↦{fullShare} V₀)) ⊢ (outRing c V₀ G 0 : sProp 𝕄) := by
  unfold outRing
  rw [if_pos (by decide)]
  unfold outRole oAhead oBehind
  rw [if_pos (by decide), if_pos (by decide), if_pos (by decide), if_pos (by decide), Ring.aheadSet_zero, Ring.behindSet_boot (d := 4) 0 (by decide), bigSep_empty,
    show Ring.sl 4 0 = (0 : Fin 4) from by decide, show Ring.sl 4 (0 + 1) = (1 : Fin 4) from by decide,
    show Ring.sl 4 (0 + 2) = (2 : Fin 4) from by decide, show Ring.sl 4 (0 + 3) = (3 : Fin 4) from by decide, oKept_whole]
  unfold outFree
  iintro ⟨Hs, ⟨S0, S1, S2, S3⟩, HO⟩
  ihave Hs := (Ring.slots4_split (U := Pipeline.UD sig nD τ) (ℓ := (c : Thread nD τ).loc cc0_scratch1) (q := fullShare) outSet outSet_disjoint outSet_cover
    (outHas c 0) (outHas c 1) (outHas c 2) (outHas c 3) (fun f => by unfold outHas; rw [outSet_eq]; rfl) (fun f => by unfold outHas; rw [outSet_eq]; rfl)
    (fun f => by unfold outHas; rw [outSet_eq]; rfl) (fun f => by unfold outHas; rw [outSet_eq]; rfl)) $$ Hs
  icases Hs with ⟨H0, H1, H2, H3⟩
  isplitl [S0 S1 S2 S3 H0 H1 H2 H3]
  · isplitl [S0 H0]
    · isplitl [S0]; · iexact S0
      iexact H0
    isplitl [S1 H1]
    · isplitl [S1]; · iexact S1
      iexact H1
    isplitl [S2 H2]
    · isplitl [S2]; · iexact S2
      iexact H2
    isplitl [S3]; · iexact S3
    iexact H3
  isplitl [HO]; · iexact HO
  iempintro

/-- The output ring after the last step gives the scratch and its counters back, and the result as wanted. -/
theorem outRing_leave (c : Dev nD) (V₀ G : BufOf (F := F) c oM) :
    (outRing c V₀ G 16 : sProp 𝕄) ⊢ iprop((∃ f, (c : Thread nD τ).loc cc0_scratch1 ↦{fullShare} f)
      ∗ (semVal ((c : Thread nD τ), outLoc 0) 0 ∗ semVal ((c : Thread nD τ), outLoc 1) 0 ∗ semVal ((c : Thread nD τ), outLoc 2) 0 ∗ semVal ((c : Thread nD τ), outLoc 3) 0)
      ∗ (((c : Thread nD τ).loc main_v4_0) ↦{fullShare} G)) := by
  unfold outRing
  rw [if_neg (by decide), ← oKept_whole]
  unfold outFree
  iintro ⟨⟨⟨S0, H0⟩, ⟨S1, H1⟩, ⟨S2, H2⟩, ⟨S3, H3⟩⟩, HO⟩
  isplitl [H0 H1 H2 H3]
  · iapply (Ring.slots4_join (U := Pipeline.UD sig nD τ) (ℓ := (c : Thread nD τ).loc cc0_scratch1) (q := fullShare) outSet outSet_disjoint outSet_cover
      (outHas c 0) (outHas c 1) (outHas c 2) (outHas c 3) (fun f => by unfold outHas; rw [outSet_eq]; rfl) (fun f => by unfold outHas; rw [outSet_eq]; rfl)
      (fun f => by unfold outHas; rw [outSet_eq]; rfl) (fun f => by unfold outHas; rw [outSet_eq]; rfl))
    isplitl [H0]; · iexact H0
    isplitl [H1]; · iexact H1
    isplitl [H2]; · iexact H2
    iexact H3
  isplitl [S0 S1 S2 S3]
  · isplitl [S0]; · iexact S0
    isplitl [S1]; · iexact S1
    isplitl [S2]; · iexact S2
    iexact S3
  iexact HO

/-! ## The launch's buffers -/

/-- The counters of the two rings' copies. -/
abbrev ringCells : Fin 7 → SemLoc sig := fun k => ![inLoc 0, inLoc 1, inLoc 2, outLoc 0, outLoc 1, outLoc 2, outLoc 3] k

theorem ringCells_own : Pipeline.OwnSemFacts spec0 ringCells := by decide

/-- What the rings' copies read, and what they write. -/
abbrev readRefs : Finset (Ref sig .tc) := {main_arg1}
abbrev writtenRefs : Finset (Ref sig .tc) := {main_v4_0}

theorem readRefs_sub : readRefs ⊆ Pipeline.restRefsP sig pre0 spec0 := by decide
theorem writtenRefs_sub : writtenRefs ⊆ Pipeline.restRefsP sig pre0 spec0 \ readRefs := by decide

/-- The launch's contents with the result as it is left. -/
def leave (c : Dev nD) : (b : Ref sig .tc) → Buf (Elt F) ((c : Thread nD τ).loc b) := Function.update (entry m c) main_v4_0 (result m c)

theorem leave_result (c : Dev nD) : leave m c main_v4_0 = result m c := Function.update_self ..

/-- What the launch hands the first point, listed. -/
theorem launch_list (c : Dev nD) (G : (c : Dev nD) → (b : Ref sig .tc) → Buf (Elt F) ((c : Thread nD τ).loc b)) :
    (Pipeline.ΦDRG ringCells spec0 readRefs writtenRefs (entry m) G c : sProp 𝕄)
      = iprop(((∃ f, (c : Thread nD τ).loc cc0_scratch0 ↦{fullShare} f) ∗ (∃ f, (c : Thread nD τ).loc cc0_scratch1 ↦{fullShare} f)) ∗ (∃ r, prngReg c r)
        ∗ (semVal ((c : Thread nD τ), inLoc 0) 0 ∗ semVal ((c : Thread nD τ), inLoc 1) 0 ∗ semVal ((c : Thread nD τ), inLoc 2) 0
          ∗ semVal ((c : Thread nD τ), outLoc 0) 0 ∗ semVal ((c : Thread nD τ), outLoc 1) 0 ∗ semVal ((c : Thread nD τ), outLoc 2) 0 ∗ semVal ((c : Thread nD τ), outLoc 3) 0)
        ∗ (((c : Thread nD τ).loc main_arg1) ↦{fullShare} queue m c) ∗ (((c : Thread nD τ).loc main_v4_0) ↦{fullShare} G c main_v4_0)) := by
  rw [Pipeline.ΦDRG_eq, scopedRest0_eq, Pipeline.ownSems0_eq_of_list c ringCells [0, 1, 2, 3, 4, 5, 6] (by decide) (by decide), bigSep_singleton]
  unfold Pipeline.routed
  rw [BI.bigSep_eq_bigSepL_of_eq [main_v4_0] (by decide) (by decide)]
  simp only [BI.bigSepL_cons_cons, BI.bigSepL_singleton]
  rfl

/-- The table, as the launch hands it. -/
theorem table_list (c : Dev nD) : (Pipeline.ΦT pre0 (tables m 0).1 c : sProp 𝕄) ⊢ tHas c (tableOf m c) fullShare.right := by
  have hc : c = (0 : Dev nD) := Subsingleton.elim _ _
  subst hc
  unfold Pipeline.ΦT Pipeline.prefHeld
  rw [show (Finset.univ : Finset (Fin 1)) = {0} from rfl, bigSep_singleton]
  exact .rfl

/-- The launch's buffers are the first state. -/
theorem enter (c : Dev nD) :
    iprop(Pipeline.ΦDRG ringCells spec0 readRefs writtenRefs (entry m) (entry m) c ∗ Pipeline.ΦT pre0 (tables m 0).1 c) ⊢ (dats m 0 c).Φ 0 := by
  rw [launch_list m c (entry m), show (dats m 0 c).Φ 0 = Held m c 0 from rfl]
  unfold Held
  iintro ⟨⟨⟨Hi, Ho⟩, Hg, ⟨S0, S1, S2, S3, S4, S5, S6⟩, HQ, HO⟩, HT⟩
  isplitl [Hg]; · iexact Hg
  isplitl [Hi S0 S1 S2 HQ]
  · iapply (inRing_enter c (queue m c))
    isplitl [Hi]; · iexact Hi
    isplitl [S0 S1 S2]
    · isplitl [S0]; · iexact S0
      isplitl [S1]; · iexact S1
      iexact S2
    iexact HQ
  isplitl [Ho S3 S4 S5 S6 HO]
  · iapply (outRing_enter c (blank m c) (result m c))
    isplitl [Ho]; · iexact Ho
    isplitl [S3 S4 S5 S6]
    · isplitl [S3]; · iexact S3
      isplitl [S4]; · iexact S4
      isplitl [S5]; · iexact S5
      iexact S6
    iexact HO
  iapply (table_list m c)
  iexact HT

/-- The last state is the launch's buffers, the result as wanted. -/
theorem depart (c : Dev nD) :
    (dats m 0 c).Φ (Fin.last grid0.N) ⊢ Pipeline.ΦDRG ringCells spec0 readRefs writtenRefs (entry m) (leave m) c := by
  rw [launch_list m c (leave m), show (dats m 0 c).Φ (Fin.last grid0.N) = Held m c grid0.N from rfl, show grid0.N = 16 by rw [N_0], leave_result]
  unfold Held
  iintro ⟨Hg, Hi, Ho, -⟩
  ihave Hi := (inRing_leave c (queue m c)) $$ Hi
  icases Hi with ⟨Hi, ⟨S0, S1, S2⟩, HQ⟩
  ihave Ho := (outRing_leave c (blank m c) (result m c)) $$ Ho
  icases Ho with ⟨Ho, ⟨S3, S4, S5, S6⟩, HO⟩
  isplitl [Hi Ho]
  · isplitl [Hi]; · iexact Hi
    iexact Ho
  isplitl [Hg]; · iexact Hg
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  isplitl [HQ]; · iexact HQ
  iexact HO

/-! ## The run -/

theorem tables_read (c : Dev nD) (k : Fin 1) : entry m c (pre0.ref k) = (tables m 0).1 k := by
  have hc : c = (0 : Dev nD) := Subsingleton.elim _ _
  subst hc; rfl

variable (ρ : Dev nD → PrngReg)

set_option backward.isDefEq.respectTransparency.types false in
/-- The run of the whole program: every buffer as the data say, and every counter at zero. -/
theorem run_all : θ_run defs (onTc (τ := τ) (main (F := F))) (s₀ m ρ)
    (fun r => Pipeline.FramePostRG (Pipeline.pin pcfgs (tables m)) (dats m) 0 writtenRefs (entry m) (leave m) r ∧ r.2.sem = fun _ => 0) :=
  Pipeline.θ_run_frameP_dmaRG (Q' := _) pcfgs (tables m) (dats m) (0 : Fin 1) launch0 ringCells defs₀ Variants.none ringCells_own readRefs writtenRefs readRefs_sub writtenRefs_sub m ρ main
    (hbody := fun c => (steps_sound m c).loose) (hshare := fun c => (dats m 0 c).share_full fun _ => rfl) (howed := fun _ _ => rfl)
    (V := entry m) (hmain := main_shape m) (hA := dats_arrays m) (hpf := tables_read m) (G := leave m) (hin := enter m) (hout := depart m)

/-- The host operations write these buffers alone. -/
theorem host_spares (b : Ref sig .tc) (hb : b ≠ main_cst ∧ b ≠ main_v0 ∧ b ≠ main_cst_0 ∧ b ≠ main_v1 ∧ b ≠ main_v2 ∧ b ≠ main_v3) :
    (([hostOps0, hostOps0_1] : List (List (HloOp τ sig (Elt F)))).flatten).Forall fun op => Proc.devRef (τ := τ) .tc b ∉ op.writes := by
  obtain ⟨h1, h2, h3, h4, h5, h6⟩ := hb
  simp only [hostOps0, hostOps0_1, List.flatten_cons, List.flatten_nil, List.append_nil, List.cons_append, List.nil_append, List.Forall,
    StableHlo.nullary_writes, StableHlo.unary_writes, StableHlo.nary_writes, StableHlo.TRef.unary, Finset.mem_singleton]
  exact ⟨StableHlo.devRef_ne_of_ne h1, StableHlo.devRef_ne_of_ne h2, StableHlo.devRef_ne_of_ne h3, StableHlo.devRef_ne_of_ne h4, StableHlo.devRef_ne_of_ne h5, StableHlo.devRef_ne_of_ne h6⟩

/-- The host operations leave the arguments alone. -/
theorem entry_arg0 (c : Dev nD) : entry m c main_arg0 = m ((c : Thread nD τ).loc main_arg0) := by
  unfold entry
  refine StableHlo.after_of_forall_not_mem (b := Proc.devRef .tc main_arg0) _ _ (List.forall_iff_forall_mem.mp ?_)
  exact host_spares _ (by decide)
theorem entry_arg1 (c : Dev nD) : entry m c main_arg1 = m ((c : Thread nD τ).loc main_arg1) := by
  unfold entry
  refine StableHlo.after_of_forall_not_mem (b := Proc.devRef .tc main_arg1) _ _ (List.forall_iff_forall_mem.mp ?_)
  exact host_spares _ (by decide)
theorem entry_arg2 (c : Dev nD) : entry m c main_arg2 = m ((c : Thread nD τ).loc main_arg2) := by
  unfold entry
  refine StableHlo.after_of_forall_not_mem (b := Proc.devRef .tc main_arg2) _ _ (List.forall_iff_forall_mem.mp ?_)
  exact host_spares _ (by decide)

/-- Every run ends with the keys' rows and the result as the data say, the arguments unchanged and every counter at zero. -/
theorem outcome : θ_run defs (onTc (τ := τ) (main (F := F))) ⟨m, fun _ => 0, ρ⟩ (fun r => (∀ c : Dev nD,
      r.2.mem ((c : Thread nD τ).loc main_v4_1) = midRows (keys m c) ∧ r.2.mem ((c : Thread nD τ).loc main_v4_0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) := by
  refine (θ_run defs _ _).mono (fun r h => ⟨fun c => ?_, h.2⟩) (run_all m ρ)
  have hr := (h.1.toR c).2
  refine ⟨((h.1.toR c).1 (1 : Fin 2)).trans (rows_written m c), (h.1.written c (Finset.mem_singleton_self _)).trans (leave_result m c), ?_, ?_, ?_⟩
  · exact (hr main_arg0 (show main_arg0 ∈ Pipeline.restRefs sig spec0 \ writtenRefs by decide)).trans (entry_arg0 m c)
  · exact (hr main_arg1 (show main_arg1 ∈ Pipeline.restRefs sig spec0 \ writtenRefs by decide)).trans (entry_arg1 m c)
  · exact (hr main_arg2 (show main_arg2 ∈ Pipeline.restRefs sig spec0 \ writtenRefs by decide)).trans (entry_arg2 m c)

end Cert.Kernel.Queue

end
-- ==== Proof.Kernel.Values.lean ====
/-
  What the results hold, from the arguments: the rows written back are the keys, and the result is the queue with the
  keys laid over it from the clamped position, transposed — the reference's two operations.
-/
module

public import proofs.«01_k».proof.Proof.Kernel.Ends
public import proofs.«01_k».proof.Proof.Gen.ReferenceIdeal
public import Idealize.ShloMosaic.Lib.StableHlo.Run
public import Idealize.ShloMosaic.Lib.Pointwise
public import Idealize.ShloMosaic.Lib.WordCmp

@[expose] public section

set_option maxRecDepth 16384

noncomputable section

namespace Cert.Kernel.Queue

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ)

/-! ## What the host operations leave -/

/-- The 1024 rows of zeros laid above the keys and below them. -/
abbrev zeroRows : Vec F S1024x128 .f32 := broadcastInDim S1024x128 ![] bcast_S_S1024x128 (constant S_ .f32 0x00000000#32)
/-- The three pieces of the padded keys. -/
abbrev pieces (k : Vec F S4096x128 .f32) : List ((s : Shape) × (s.Idx → Elt F .f32)) := [⟨S1024x128, zeroRows⟩, ⟨S4096x128, k⟩, ⟨S1024x128, zeroRows⟩]
/-- The keys with zeros above them and below. -/
def padded (k : Vec F S4096x128 .f32) : Vec F S6144x128 .f32 :=
  concatenate S6144x128 0 (pieces k) concatenates_S1024x128_S4096x128_S1024x128_S6144x128_d0

theorem keys_padded (c : Dev nD) : keys m c = padded (m ((c : Thread nD τ).loc main_arg0)) := by
  unfold keys entry
  simp only [hostOps0, hostOps0_1, List.flatten_cons, List.flatten_nil, List.append_nil, List.cons_append, List.nil_append, StableHlo.TRef.unary]
  after_results
  rfl

theorem table_scalar (c : Dev nD) : ptWord c (tableOf m c) = (m ((c : Thread nD τ).loc main_arg2) : Vec F S_ .i32) (Shape.Idx.first ReferenceIdeal.Gen.h_S_) := by
  have e : tableOf m c = (broadcastInDim S1 ![] bcast_S_S1 (m ((c : Thread nD τ).loc main_arg2) : Vec F S_ .i32) : Vec F S1 .i32) := by
    unfold tableOf entry
    simp only [hostOps0, hostOps0_1, List.flatten_cons, List.flatten_nil, List.append_nil, List.cons_append, List.nil_append, StableHlo.TRef.unary]
    after_results
    rfl
  rw [e]
  exact congrArg (m ((c : Thread nD τ).loc main_arg2) : Vec F S_ .i32) (funext fun a => a.elim0)

/-- A middle row of the padded keys is a row of the keys. -/
theorem padded_mid (k : Vec F S4096x128 .f32) (r : Fin 4096) (d : Fin 128) (r' : Fin 6144) (h : r'.val = 1024 + r.val) : padded k (ix2 r' d) = k (ix2 r d) := by
  refine concatenate_apply_piece (t := S6144x128) 0 (pieces k) concatenates_S1024x128_S4096x128_S1024x128_S6144x128_d0 (ix2 r' d) 1 (show 1 < 3 by decide) S4096x128 k rfl rfl 1024 rfl (ix2 r d) (fun b hb => ?_) h.symm
  fin_cases b
  · exact absurd rfl hb
  · rfl

/-- The rows written back are the keys. -/
theorem rows_keys (c : Dev nD) : midRows (keys m c) = m ((c : Thread nD τ).loc main_arg0) := by
  rw [keys_padded]
  funext x
  refine (padded_mid _ (x 0) (x 1) _ rfl).trans (congrArg (m ((c : Thread nD τ).loc main_arg0) : Vec F S4096x128 .f32) (funext fun a => ?_))
  fin_cases a <;> rfl

/-! ## The reference's operations -/

/-- The queue with the keys laid over it from a row. -/
abbrev laid (Q : Vec F S262144x128 .f32) (K : Vec F S4096x128 .f32) (s : Fin 2 → Int) : Vec F S262144x128 .f32 :=
  Host.dynamicUpdateSlice Q K s ReferenceIdeal.Gen.updateFits_S262144x128_S4096x128

section Laid
variable (Q : Vec F S262144x128 .f32) (K : Vec F S4096x128 .f32) (s : Fin 2 → Int) (v : BitVec 32) (h0 : s 0 = v.toInt) (h1 : s 1 = 0)

include h0 in
theorem start_rows : Host.clampedStart S262144x128 S4096x128 rfl s (0 : Fin 2) = wpos v := by
  unfold Host.clampedStart wpos
  rw [h0]
  show (min (max v.toInt 0) ((262144 - 4096 : ℕ) : Int)).toNat = _
  omega
include h1 in
theorem start_lanes : Host.clampedStart S262144x128 S4096x128 rfl s (1 : Fin 2) = 0 := by
  unfold Host.clampedStart
  rw [h1]
  rfl

include h0 h1

/-- A row among those laid over is a row of the keys, -/
theorem laid_in (n : Fin 262144) (d : Fin 128) (r : Fin 4096) (h : wpos v ≤ n.val ∧ n.val < wpos v + 4096) (hr : r.val = n.val - wpos v) : laid Q K s (ix2 n d) = K (ix2 r d) := by
  have a0 := start_rows s v h0
  have a1 := start_lanes s h1
  unfold laid
  rw [Host.dynamicUpdateSlice_apply, dif_pos]
  · refine congrArg K (funext fun a => Fin.ext ?_)
    fin_cases a
    · refine Eq.trans ?_ hr.symm
      exact congrArg (fun z => n.val - z) a0
    · exact (congrArg (fun z => d.val - z) a1)
  · intro a
    fin_cases a
    · exact ⟨a0.trans_le h.1, h.2.trans_eq (congrArg (· + 4096) a0.symm)⟩
    · exact ⟨a1.trans_le (Nat.zero_le _), lt_of_lt_of_eq (lt_of_lt_of_eq d.isLt (Nat.zero_add 128).symm) (congrArg (· + 128) a1.symm)⟩

/-- any other one is the queue's. -/
theorem laid_out (n : Fin 262144) (d : Fin 128) (h : ¬ (wpos v ≤ n.val ∧ n.val < wpos v + 4096)) : laid Q K s (ix2 n d) = Q (ix2 n d) := by
  have a0 := start_rows s v h0
  unfold laid
  rw [Host.dynamicUpdateSlice_apply, dif_neg]
  intro hin
  exact h ⟨a0.symm.trans_le (hin 0).1, (hin 0).2.trans_eq (congrArg (· + 4096) a0)⟩

/-- The result is the queue with the keys laid over it, transposed. -/
theorem laid_turned : Gout (wpos v) (padded K) Q
    = transpose S128x262144 [1, 0] (laid Q K s) ReferenceIdeal.Gen.transposes_S262144x128_S128x262144_1_0 := by
  funext y
  obtain ⟨d, n, rfl⟩ : ∃ (d : Fin 128) (n : Fin 262144), y = ix2 d n := ⟨y 0, y 1, funext fun a => by fin_cases a <;> rfl⟩
  rw [transpose_apply [1, 0] (laid Q K s) _ (ix2 d n) (ix2 n d) (fun b => by fin_cases b <;> rfl)]
  by_cases h : wpos v ≤ n.val ∧ n.val < wpos v + 4096
  · have hr : n.val - wpos v < 4096 := by omega
    rw [laid_in Q K s v h0 h1 n d ⟨n.val - wpos v, hr⟩ h rfl, Gout_in _ _ _ d n h ⟨1024 + (n.val - wpos v), by omega⟩ rfl]
    exact padded_mid K _ d _ rfl
  · rw [laid_out Q K s v h0 h1 n d h, Gout_out _ _ _ d n h]

end Laid

/-- The result from the arguments. -/
theorem result_laid (c : Dev nD) (s : Fin 2 → Int) (h0 : s 0 = ((m ((c : Thread nD τ).loc main_arg2) : Vec F S_ .i32) (Shape.Idx.first ReferenceIdeal.Gen.h_S_)).toInt) (h1 : s 1 = 0) :
    result m c = transpose S128x262144 [1, 0] (laid (m ((c : Thread nD τ).loc main_arg1)) (m ((c : Thread nD τ).loc main_arg0)) s) ReferenceIdeal.Gen.transposes_S262144x128_S128x262144_1_0 := by
  unfold result
  rw [table_scalar, keys_padded, show queue m c = m ((c : Thread nD τ).loc main_arg1) from entry_arg1 m c]
  exact laid_turned _ _ s _ h0 h1

/-- Every run ends with the keys in the first result, the queue with the keys laid over it, transposed, in the second,
    the arguments unchanged and every counter at zero. -/
theorem outcome_args (ρ : Dev nD → PrngReg) (s : Dev nD → Fin 2 → Int)
    (h0 : ∀ c, s c 0 = ((m ((c : Thread nD τ).loc main_arg2) : Vec F S_ .i32) (Shape.Idx.first ReferenceIdeal.Gen.h_S_)).toInt) (h1 : ∀ c, s c 1 = 0) :
    θ_run defs (onTc (τ := τ) (main (F := F))) ⟨m, fun _ => 0, ρ⟩ (fun r => (∀ c : Dev nD,
      r.2.mem ((c : Thread nD τ).loc main_v4_1) = m ((c : Thread nD τ).loc main_arg0)
      ∧ r.2.mem ((c : Thread nD τ).loc main_v4_0) = transpose S128x262144 [1, 0] (laid (m ((c : Thread nD τ).loc main_arg1)) (m ((c : Thread nD τ).loc main_arg0)) (s c)) ReferenceIdeal.Gen.transposes_S262144x128_S128x262144_1_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c => ⟨(h.1 c).1.trans (rows_keys m c), (h.1 c).2.1.trans (result_laid m c (s c) (h0 c) (h1 c)), (h.1 c).2.2⟩, h.2⟩) (outcome m ρ)

end Cert.Kernel.Queue

end
-- ==== Proof.Ideal.lean ====
/-
  The kernel read over the extended reals. Its text is the kernel's own, so its runs are the kernel's at those values,
  and so is what they leave.
-/
module

public import proofs.«01_k».proof.Proof.Kernel.Values
public import proofs.«01_k».proof.Proof.Gen.KernelIdeal

@[expose] public section

noncomputable section

namespace Cert.KernelIdeal.Queue

open Idealize.ShloMosaic Idealize.ShloMosaic.TcCoe Idealize.SL.Sem

/-- The scalar argument's one element. -/
abbrev scalarAt (v : (⟨0, ![]⟩ : Shape).Idx → BitVec 32) : BitVec 32 := v (Shape.Idx.first ReferenceIdeal.Gen.h_S_)

/-- The queue with the keys laid over it from the row `s 0`, transposed. -/
abbrev turned (Q : FVec Ideal ⟨2, ![262144, 128]⟩ .f32) (K : FVec Ideal ⟨2, ![4096, 128]⟩ .f32) (s : Fin 2 → Int) : FVec Ideal ⟨2, ![128, 262144]⟩ .f32 :=
  transpose ⟨2, ![128, 262144]⟩ [1, 0] (Host.dynamicUpdateSlice Q K s ReferenceIdeal.Gen.updateFits_S262144x128_S4096x128) ReferenceIdeal.Gen.transposes_S262144x128_S128x262144_1_0

set_option smartUnfolding false in
/-- The two programs are one. -/
theorem same_run (m : (ℓ : Loc nD τ sig) → Buf (Elt Ideal) ℓ) (ρ : Dev nD → PrngReg) :
    θ_run (defs (F := Ideal)) (onTc (τ := τ) (main (F := Ideal))) ⟨m, fun _ => 0, ρ⟩
      = θ_run (Kernel.defs (F := Ideal)) (onTc (τ := Kernel.τ) (Kernel.main (F := Ideal))) ⟨m, fun _ => 0, ρ⟩ := by
  with_unfolding_all rfl

set_option smartUnfolding false in
/-- Every run over the extended reals ends with the keys in the first result, the queue with the keys laid over it,
    transposed, in the second, the arguments unchanged and every counter at zero. -/
theorem outcome (m : (ℓ : Loc nD τ sig) → Buf (Elt Ideal) ℓ) (ρ : Dev nD → PrngReg) (s : Dev nD → Fin 2 → Int)
    (h0 : ∀ c, s c 0 = (scalarAt (m ((c : Thread nD τ).loc main_arg2))).toInt) (h1 : ∀ c, s c 1 = 0) :
    θ_run (defs (F := Ideal)) (onTc (τ := τ) (main (F := Ideal))) ⟨m, fun _ => 0, ρ⟩ (fun r => (∀ c : Dev nD,
      r.2.mem ((c : Thread nD τ).loc main_v4_1) = m ((c : Thread nD τ).loc main_arg0)
      ∧ r.2.mem ((c : Thread nD τ).loc main_v4_0) = turned (m ((c : Thread nD τ).loc main_arg1)) (m ((c : Thread nD τ).loc main_arg0)) (s c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) := by
  rw [same_run]
  with_unfolding_all exact Kernel.Queue.outcome_args m ρ s h0 h1

end Cert.KernelIdeal.Queue

end
-- ==== Proof.Reference.lean ====
/-
  The reference's run: its eight operations in order, and what they leave.
-/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Queue

open Cert.ReferenceIdeal.Gen Idealize.ShloMosaic Idealize.ShloMosaic.TcCoe Idealize.SL.Sem Idealize.ShloMosaic.StableHlo

variable {F : FTy → Type} [FloatOps F]

/-- The update of the queue at a row and a lane given as scalars. -/
def lay (Q : Vec F S262144x128 .f32) (K : Vec F S4096x128 .f32) (i : Fin 2 → Vec F S_ .i32) : Vec F S262144x128 .f32 :=
  Host.dynamicUpdateSlice Q K (fun k => (i k (Shape.Idx.first h_S_)).toInt) updateFits_S262144x128_S4096x128
/-- The transpose. -/
def turn (Q : Vec F S262144x128 .f32) : Vec F S128x262144 .f32 := transpose S128x262144 [1, 0] Q transposes_S262144x128_S128x262144_1_0

/-- The operations up to the row of the update, -/
abbrev rowOps : List (HloOp τ sig (Elt F)) :=
  [ nullary main_c (constantI S_ 32 0#32 : Vec F S_ .i32),
    binary main_arg2 main_c main_v0 (cmpi .slt : Vec F S_ .i32 → Vec F S_ .i32 → Vec F S_ .i1),
    nullary main_c_0 (constantI S_ 32 262144#32 : Vec F S_ .i32),
    binary main_arg2 main_c_0 main_v1 (addi : Vec F S_ .i32 → Vec F S_ .i32 → Vec F S_ .i32),
    ternary main_v0 main_v1 main_arg2 main_v2 (select : Vec F S_ .i1 → Vec F S_ .i32 → Vec F S_ .i32 → Vec F S_ .i32),
    nullary main_c_1 (constantI S_ 32 0#32 : Vec F S_ .i32) ]
/-- the update, and the transpose. -/
abbrev layOp : HloOp τ sig (Elt F) := binaryIndexed main_arg1 main_arg0 ![main_v2, main_c_1] ⟨S_, .i32⟩ main_v3 (lay : Vec F S262144x128 .f32 → Vec F S4096x128 .f32 → (Fin 2 → Vec F S_ .i32) → Vec F S262144x128 .f32)
abbrev turnOp : HloOp τ sig (Elt F) := unary main_v3 main_v4 (turn : Vec F S262144x128 .f32 → Vec F S128x262144 .f32)
/-- All of them. -/
abbrev refOps : List (HloOp τ sig (Elt F)) := rowOps ++ [layOp, turnOp]

theorem main_ops (c : Dev nD) : main (F := F) c = seq refOps := rfl
theorem no_scoped_refs : (Finset.univ.filter fun b : Ref sig .tc => b.isScoped) = ∅ := by decide
theorem no_scoped_cells : (Finset.univ.filter fun sm : SemLoc sig => sm.isScoped .tc) = ∅ := by decide
theorem refOps_sub : (refOps : List (HloOp τ sig (Elt F))).Forall fun op => op.bufs ⊆ tcRefs τ sig :=
  ⟨nullary_bufs_sub .., binary_bufs_sub .., nullary_bufs_sub .., binary_bufs_sub .., ternary_bufs_sub .., nullary_bufs_sub .., binaryIndexed_bufs_sub .., unary_bufs_sub ..⟩

section Read
variable (V : Valuation τ sig (Elt F))

/-- The row of the update: the scalar, with the length of the queue added to it where it is negative. -/
abbrev rowOf (v : Vec F S_ .i32) : Vec F S_ .i32 := select (cmpi .slt v (constantI S_ 32 0#32)) (addi v (constantI S_ 32 262144#32)) v

theorem row_read : after rowOps V (Proc.devRef .tc main_v2) = rowOf (V (Proc.devRef .tc main_arg2)) := by after_results
theorem lane_read : after rowOps V (Proc.devRef .tc main_c_1) = (constantI S_ 32 0#32 : Vec F S_ .i32) := by after_results
theorem row_arg0 : after rowOps V (Proc.devRef .tc main_arg0) = V (Proc.devRef .tc main_arg0) := by after_results
theorem row_arg1 : after rowOps V (Proc.devRef .tc main_arg1) = V (Proc.devRef .tc main_arg1) := by after_results
theorem row_arg2 : after rowOps V (Proc.devRef .tc main_arg2) = V (Proc.devRef .tc main_arg2) := by after_results

/-- The update and the transpose, read from what the scalars' operations left. -/
theorem lay_turn (W : Valuation τ sig (Elt F)) : after [layOp, turnOp] W (Proc.devRef .tc main_v4)
    = turn (lay (W (Proc.devRef .tc main_arg1)) (W (Proc.devRef .tc main_arg0)) ![W (Proc.devRef .tc main_v2), W (Proc.devRef .tc main_c_1)]) := by
  simp only [after_cons, after_nil]
  rw [unary_result, binaryIndexed_result]
  refine congrArg (fun i => turn (lay (W (Proc.devRef .tc main_arg1)) (W (Proc.devRef .tc main_arg0)) i)) (funext fun k => ?_)
  fin_cases k <;> rfl

/-- The update and the transpose write their own results alone. -/
theorem lay_spares (W : Valuation τ sig (Elt F)) (b : Ref sig .tc) (h3 : b ≠ main_v3) (h4 : b ≠ main_v4) : after [layOp, turnOp] W (Proc.devRef .tc b) = W (Proc.devRef .tc b) := by
  simp only [after_cons, after_nil]
  rw [unary_result_ne (h := h4), binaryIndexed_result_ne (h := h3)]

theorem refOps_read (b : Ref sig .tc) : after refOps V (Proc.devRef .tc b) = after [layOp, turnOp] (after rowOps V) (Proc.devRef .tc b) := by
  rw [StableHlo.after_append]

/-- The second result: the queue with the keys laid over it, transposed. -/
theorem result_read : after refOps V (Proc.devRef .tc main_v4)
    = turn (lay (V (Proc.devRef .tc main_arg1)) (V (Proc.devRef .tc main_arg0)) ![rowOf (V (Proc.devRef .tc main_arg2)), constantI S_ 32 0#32]) := by
  rw [refOps_read, lay_turn, row_read, lane_read, row_arg0, row_arg1]

theorem arg0_read : after refOps V (Proc.devRef .tc main_arg0) = V (Proc.devRef .tc main_arg0) := by
  rw [refOps_read, lay_spares _ _ (by decide) (by decide), row_arg0]
theorem arg1_read : after refOps V (Proc.devRef .tc main_arg1) = V (Proc.devRef .tc main_arg1) := by
  rw [refOps_read, lay_spares _ _ (by decide) (by decide), row_arg1]
theorem arg2_read : after refOps V (Proc.devRef .tc main_arg2) = V (Proc.devRef .tc main_arg2) := by
  rw [refOps_read, lay_spares _ _ (by decide) (by decide), row_arg2]

end Read

/-- Every run of the reference ends with the queue updated and transposed in its second result, the first being the
    keys themselves, and the arguments unchanged. -/
theorem outcome (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v4) = turn (lay (m ((c : Thread nD τ).loc main_arg1)) (m ((c : Thread nD τ).loc main_arg0)) ![rowOf (m ((c : Thread nD τ).loc main_arg2)), constantI S_ 32 0#32])
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c main_v4).trans (result_read _), (h c main_arg0).trans (arg0_read _), (h c main_arg1).trans (arg1_read _), (h c main_arg2).trans (arg2_read _)⟩)
    (run_seq no_scoped_refs no_scoped_cells defs main (fun _ => refOps) main_ops (fun _ => refOps_sub) m ρ)

end Cert.ReferenceIdeal.Queue

end
-- ==== Proof.lean ====
/-
  The certificate of the queue update: each program runs, leaves its arguments alone and its counters at zero, and over
  the extended reals the kernel's two results are the reference's where the write position is not negative.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_nonneg
public import proofs.«01_k».proof.Proof.Ideal
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.WordCmp Idealize.SL.Sem

/-- The kernel runs, leaves its arguments alone and its counters at zero. -/
theorem kernel_frame : Cert.quiescent_Kernel := fun m g _ =>
  (θ_run _ _ _).mono (fun _ h => ⟨fun c => (h.1 c).2.2, h.2⟩) (Cert.Kernel.Queue.outcome m g)

/-- Where the keys are laid over the queue: the scalar's row, the first lane. -/
abbrev startOf (v : (⟨0, ![]⟩ : Shape).Idx → BitVec 32) : Fin 2 → Int := ![(Cert.KernelIdeal.Queue.scalarAt v).toInt, 0]

/-- The kernel over the extended reals runs, leaves its arguments alone and its counters at zero. -/
theorem ideal_frame : Cert.quiescent_KernelIdeal := fun m g _ =>
  (θ_run _ _ _).mono (fun _ h => ⟨fun c => (h.1 c).2.2, h.2⟩)
    (Cert.KernelIdeal.Queue.outcome m g (fun c => startOf (m ((c : Thread Cert.KernelIdeal.nD Cert.KernelIdeal.τ).loc Cert.KernelIdeal.main_arg2))) (fun _ => rfl) fun _ => rfl)

/-- The reference runs, leaves its arguments alone and its counters at zero, having none. -/
theorem reference_frame : Cert.quiescent_ReferenceIdeal := fun m g _ =>
  (θ_run _ _ _).mono (fun r h => ⟨fun c => (h c).2, sem_eq_zero_of_no_sems (by decide) r.2⟩) (Cert.ReferenceIdeal.Queue.outcome m g)

/-- A position that is not negative is read as it is. -/
theorem position_kept (v : (⟨0, ![]⟩ : Shape).Idx → BitVec 32) (h : cmpi .sge v (constantI ⟨0, ![]⟩ 32 0#32) = fun _ => 1#1) :
    select (cmpi .slt v (constantI ⟨0, ![]⟩ 32 0#32)) (addi v (constantI ⟨0, ![]⟩ 32 262144#32)) v = v := by
  funext i
  have hi : IntOp.cmpi .sge (v i) 0#32 = 1#1 := congrFun h i
  rw [cmpi_sge_eq, ofBool_decide_eq_one_iff, BitVec.toInt_zero] at hi
  show Scalar.select (IntOp.cmpi .slt (v i) 0#32) (addi v (constantI ⟨0, ![]⟩ 32 262144#32) i) (v i) = v i
  rw [cmpi_slt_eq, select_ofBool, BitVec.toInt_zero, decide_eq_false (not_lt.mpr hi)]
  rfl

/-- Where the position is not negative the reference's start is the scalar's row and the first lane. -/
theorem start_kept (v : (⟨0, ![]⟩ : Shape).Idx → BitVec 32) (h : cmpi .sge v (constantI ⟨0, ![]⟩ 32 0#32) = fun _ => 1#1) :
    (fun k : Fin 2 => (((![select (cmpi .slt v (constantI ⟨0, ![]⟩ 32 0#32)) (addi v (constantI ⟨0, ![]⟩ 32 262144#32)) v, constantI ⟨0, ![]⟩ 32 0#32] :
      Fin 2 → (⟨0, ![]⟩ : Shape).Idx → BitVec 32)) k (Shape.Idx.first Cert.ReferenceIdeal.Gen.h_S_)).toInt) = startOf v := by
  rw [position_kept v h]
  funext k
  fin_cases k <;> rfl

/-- Over the extended reals, where the position is not negative, the kernel's results are the reference's. -/
theorem agree : Cert.algebraic_KernelIdeal_ReferenceIdeal_pre_nonneg := by
  intro m g m' g' hpre hargs
  refine ⟨fun c => m ((c : Thread Cert.KernelIdeal.nD Cert.KernelIdeal.τ).loc Cert.KernelIdeal.main_arg0),
    fun c => Cert.KernelIdeal.Queue.turned (m ((c : Thread Cert.KernelIdeal.nD Cert.KernelIdeal.τ).loc Cert.KernelIdeal.main_arg1)) (m ((c : Thread Cert.KernelIdeal.nD Cert.KernelIdeal.τ).loc Cert.KernelIdeal.main_arg0)) (startOf (m ((c : Thread Cert.KernelIdeal.nD Cert.KernelIdeal.τ).loc Cert.KernelIdeal.main_arg2))), ?_, ?_⟩
  · exact (θ_run _ _ _).mono (fun _ h => h.1)
      (Cert.KernelIdeal.Queue.outcome m g (fun c => startOf (m ((c : Thread Cert.KernelIdeal.nD Cert.KernelIdeal.τ).loc Cert.KernelIdeal.main_arg2))) (fun _ => rfl) fun _ => rfl)
  · refine (θ_run _ _ _).mono (fun r h c => ?_) (Cert.ReferenceIdeal.Queue.outcome m' g')
    obtain ⟨a0, a1, a2⟩ := hargs c
    refine ⟨(h c).2.1.trans a0, (h c).1.trans ?_, (h c).2⟩
    have e := start_kept (m ((c : Thread Cert.KernelIdeal.nD Cert.KernelIdeal.τ).loc Cert.KernelIdeal.main_arg2)) (hpre c)
    rw [a0, a1, a2]
    exact congrArg (Cert.KernelIdeal.Queue.turned (m ((c : Thread Cert.KernelIdeal.nD Cert.KernelIdeal.τ).loc Cert.KernelIdeal.main_arg1)) (m ((c : Thread Cert.KernelIdeal.nD Cert.KernelIdeal.τ).loc Cert.KernelIdeal.main_arg0))) e

/-- Everything claimed. -/
theorem claim : Cert.Claim := ⟨Cert.Kernel.Gen.facts, Cert.KernelIdeal.Gen.facts, Cert.ReferenceIdeal.Gen.facts, Cert.Pre_nonneg.Gen.facts,
  kernel_frame, ideal_frame, fun m g _ => ideal_frame m g trivial, reference_frame, fun m g _ => reference_frame m g trivial, trivial, agree⟩

end Cert.Proof

end
